-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v19)) (v4 : (c : Dev Cert.KernelIdeal.nD) → Buf (Elt Ideal) ((c.tc : Thread Cert.KernelIdeal.nD Cert.KernelIdeal.τ).loc Cert.KernelIdeal.main_v13_2)) (v5 : (c : Dev Cert.KernelIdeal.nD) → Buf (Elt Ideal) ((c.tc : Thread Cert.KernelIdeal.nD Cert.KernelIdeal.τ).loc Cert.KernelIdeal.main_v13_3)) (v6 : (c : Dev Cert.KernelIdeal.nD) → Buf (Elt Ideal) ((c.tc : Thread Cert.KernelIdeal.nD Cert.KernelIdeal.τ).loc Cert.KernelIdeal.main_v15_1)) (v7 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_v13_2) = v4 c
          ∧ r.2.mem ((c.tc : Thread Cert.KernelIdeal.nD Cert.KernelIdeal.τ).loc Cert.KernelIdeal.main_v13_3) = v5 c
          ∧ r.2.mem ((c.tc : Thread Cert.KernelIdeal.nD Cert.KernelIdeal.τ).loc Cert.KernelIdeal.main_v15_1) = v6 c
          ∧ r.2.mem ((c.tc : Thread Cert.KernelIdeal.nD Cert.KernelIdeal.τ).loc Cert.KernelIdeal.main_v15_2) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_v20) = v5 c
          ∧ r.2.mem ((c.tc : Thread Cert.ReferenceIdeal.nD Cert.ReferenceIdeal.τ).loc Cert.ReferenceIdeal.main_v59) = v6 c
          ∧ r.2.mem ((c.tc : Thread Cert.ReferenceIdeal.nD Cert.ReferenceIdeal.τ).loc Cert.ReferenceIdeal.main_v51) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2688x2816 : Shape := ⟨3, ![3, 2688, 2816]⟩
abbrev S3x2688x2688 : Shape := ⟨3, ![3, 2688, 2688]⟩
abbrev S3x2816x2816 : Shape := ⟨3, ![3, 2816, 2816]⟩
abbrev S3x2688x11 : Shape := ⟨3, ![3, 2688, 11]⟩
abbrev S3 : Shape := ⟨1, ![3]⟩
abbrev S_ : Shape := ⟨0, ![]⟩
abbrev S1x2688x384 : Shape := ⟨3, ![1, 2688, 384]⟩
abbrev S1x2688x2816 : Shape := ⟨3, ![1, 2688, 2816]⟩
abbrev S1x384x2816 : Shape := ⟨3, ![1, 384, 2816]⟩
abbrev S1x384x11 : Shape := ⟨3, ![1, 384, 11]⟩
abbrev S2688x384 : Shape := ⟨2, ![2688, 384]⟩
abbrev S1x2688x512 : Shape := ⟨3, ![1, 2688, 512]⟩
abbrev S2688x512 : Shape := ⟨2, ![2688, 512]⟩
abbrev S384x512 : Shape := ⟨2, ![384, 512]⟩
abbrev S1x384x512 : Shape := ⟨3, ![1, 384, 512]⟩
abbrev S1x2688x256 : Shape := ⟨3, ![1, 2688, 256]⟩
abbrev S2688x256 : Shape := ⟨2, ![2688, 256]⟩
abbrev S384x256 : Shape := ⟨2, ![384, 256]⟩
abbrev S1x384x256 : Shape := ⟨3, ![1, 384, 256]⟩
abbrev S1x384x1 : Shape := ⟨3, ![1, 384, 1]⟩
abbrev S384x1 : Shape := ⟨2, ![384, 1]⟩
abbrev S384 : Shape := ⟨1, ![384]⟩
abbrev S1x2816x2816 : Shape := ⟨3, ![1, 2816, 2816]⟩
abbrev S384x2816 : Shape := ⟨2, ![384, 2816]⟩
abbrev S1x2816x256 : Shape := ⟨3, ![1, 2816, 256]⟩
abbrev S2816x256 : Shape := ⟨2, ![2816, 256]⟩
abbrev S1x384x2688 : Shape := ⟨3, ![1, 384, 2688]⟩
abbrev S384x2688 : Shape := ⟨2, ![384, 2688]⟩
abbrev S1x192x2816 : Shape := ⟨3, ![1, 192, 2816]⟩
abbrev S1 : Shape := ⟨1, ![1]⟩
abbrev S192x2816 : Shape := ⟨2, ![192, 2816]⟩
abbrev S1x512x2816 : Shape := ⟨3, ![1, 512, 2816]⟩
abbrev S512x2816 : Shape := ⟨2, ![512, 2816]⟩
abbrev S192x512 : Shape := ⟨2, ![192, 512]⟩
abbrev S1x192x512 : Shape := ⟨3, ![1, 192, 512]⟩
abbrev S1x256x2816 : Shape := ⟨3, ![1, 256, 2816]⟩
abbrev S256x2816 : Shape := ⟨2, ![256, 2816]⟩
abbrev S192x256 : Shape := ⟨2, ![192, 256]⟩
abbrev S1x192x256 : Shape := ⟨3, ![1, 192, 256]⟩
abbrev S21x384x384 : Shape := ⟨3, ![21, 384, 384]⟩
abbrev S384x384 : Shape := ⟨2, ![384, 384]⟩
abbrev S1x384x384 : Shape := ⟨3, ![1, 384, 384]⟩
abbrev S55x256x256 : Shape := ⟨3, ![55, 256, 256]⟩
abbrev S256x256 : Shape := ⟨2, ![256, 256]⟩
abbrev S1x256x256 : Shape := ⟨3, ![1, 256, 256]⟩

abbrev nBuf : Space → Nat
  | .hbm => 42
  | .vmem => 68
  | .smem => 1
  | _ => 0

abbrev bufTy : (tb : Table) → Fin (tcTables nBuf tb) → BufTy
  | .hbm, ⟨0, _⟩ => ⟨S3x2688x2816, .f32⟩
  | .hbm, ⟨1, _⟩ => ⟨S3x2688x2816, .bf16⟩
  | .hbm, ⟨2, _⟩ => ⟨S3x2688x2688, .bf16⟩
  | .hbm, ⟨3, _⟩ => ⟨S3x2816x2816, .bf16⟩
  | .hbm, ⟨4, _⟩ => ⟨S3x2688x2816, .i8⟩
  | .hbm, ⟨5, _⟩ => ⟨S3x2688x11, .f32⟩
  | .hbm, ⟨6, _⟩ => ⟨S3x2688x2816, .i8⟩
  | .hbm, ⟨7, _⟩ => ⟨S3x2688x11, .f32⟩
  | .hbm, ⟨8, _⟩ => ⟨S3x2688x2688, .f32⟩
  | .hbm, ⟨9, _⟩ => ⟨S3x2816x2816, .f32⟩
  | .hbm, ⟨10, _⟩ => ⟨S3, .i32⟩
  | .hbm, ⟨11, _⟩ => ⟨S3, .f32⟩
  | .hbm, ⟨12, _⟩ => ⟨S_, .f32⟩
  | .hbm, ⟨13, _⟩ => ⟨S3, .f32⟩
  | .hbm, ⟨14, _⟩ => ⟨S3, .f32⟩
  | .hbm, ⟨15, _⟩ => ⟨S_, .f32⟩
  | .hbm, ⟨16, _⟩ => ⟨S3, .f32⟩
  | .hbm, ⟨17, _⟩ => ⟨S3, .f32⟩
  | .hbm, ⟨18, _⟩ => ⟨S3, .f32⟩
  | .hbm, ⟨19, _⟩ => ⟨S_, .f32⟩
  | .hbm, ⟨20, _⟩ => ⟨S3, .f32⟩
  | .hbm, ⟨21, _⟩ => ⟨S3, .f32⟩
  | .hbm, ⟨22, _⟩ => ⟨S_, .f32⟩
  | .hbm, ⟨23, _⟩ => ⟨S3, .f32⟩
  | .hbm, ⟨24, _⟩ => ⟨S3, .f32⟩
  | .hbm, ⟨25, _⟩ => ⟨S_, .f32⟩
  | .hbm, ⟨26, _⟩ => ⟨S3, .f32⟩
  | .hbm, ⟨27, _⟩ => ⟨S3, .f32⟩
  | .hbm, ⟨28, _⟩ => ⟨S3, .f32⟩
  | .hbm, ⟨29, _⟩ => ⟨S3x2688x2816, .bf16⟩
  | .hbm, ⟨30, _⟩ => ⟨S3x2688x2816, .bf16⟩
  | .hbm, ⟨31, _⟩ => ⟨S3x2688x2816, .i8⟩
  | .hbm, ⟨32, _⟩ => ⟨S3x2688x11, .f32⟩
  | .hbm, ⟨33, _⟩ => ⟨S3x2688x2816, .bf16⟩
  | .hbm, ⟨34, _⟩ => ⟨S3x2688x2816, .bf16⟩
  | .hbm, ⟨35, _⟩ => ⟨S3x2688x2816, .i8⟩
  | .hbm, ⟨36, _⟩ => ⟨S3x2688x11, .f32⟩
  | .hbm, ⟨37, _⟩ => ⟨S3x2688x2816, .bf16⟩
  | .hbm, ⟨38, _⟩ => ⟨S3x2688x2816, .f32⟩
  | .hbm, ⟨39, _⟩ => ⟨S3x2688x2816, .f32⟩
  | .hbm, ⟨40, _⟩ => ⟨S3x2688x2688, .f32⟩
  | .hbm, ⟨41, _⟩ => ⟨S3x2816x2816, .f32⟩
  | .local _ .vmem, ⟨0, _⟩ => ⟨S1x2688x384, .bf16⟩
  | .local _ .vmem, ⟨1, _⟩ => ⟨S1x2688x384, .bf16⟩
  | .local _ .vmem, ⟨2, _⟩ => ⟨S1x2688x2816, .bf16⟩
  | .local _ .vmem, ⟨3, _⟩ => ⟨S1x2688x2816, .bf16⟩
  | .local _ .vmem, ⟨4, _⟩ => ⟨S1x384x2816, .i8⟩
  | .local _ .vmem, ⟨5, _⟩ => ⟨S1x384x2816, .i8⟩
  | .local _ .vmem, ⟨6, _⟩ => ⟨S1x384x11, .f32⟩
  | .local _ .vmem, ⟨7, _⟩ => ⟨S1x384x11, .f32⟩
  | .local _ .vmem, ⟨8, _⟩ => ⟨S1x384x2816, .bf16⟩
  | .local _ .vmem, ⟨9, _⟩ => ⟨S1x384x2816, .bf16⟩
  | .local _ .vmem, ⟨10, _⟩ => ⟨S1x384x2816, .bf16⟩
  | .local _ .vmem, ⟨11, _⟩ => ⟨S1x384x2816, .bf16⟩
  | .local _ .vmem, ⟨12, _⟩ => ⟨S1x384x2816, .i8⟩
  | .local _ .vmem, ⟨13, _⟩ => ⟨S1x384x2816, .i8⟩
  | .local _ .vmem, ⟨14, _⟩ => ⟨S1x384x11, .f32⟩
  | .local _ .vmem, ⟨15, _⟩ => ⟨S1x384x11, .f32⟩
  | .local _ .vmem, ⟨16, _⟩ => ⟨S1x2688x384, .bf16⟩
  | .local _ .vmem, ⟨17, _⟩ => ⟨S1x2688x384, .bf16⟩
  | .local _ .vmem, ⟨18, _⟩ => ⟨S1x2688x2816, .bf16⟩
  | .local _ .vmem, ⟨19, _⟩ => ⟨S1x2688x2816, .bf16⟩
  | .local _ .vmem, ⟨20, _⟩ => ⟨S1x384x2816, .bf16⟩
  | .local _ .vmem, ⟨21, _⟩ => ⟨S1x384x2816, .bf16⟩
  | .local _ .vmem, ⟨22, _⟩ => ⟨S1x384x2816, .bf16⟩
  | .local _ .vmem, ⟨23, _⟩ => ⟨S1x384x2816, .bf16⟩
  | .local _ .vmem, ⟨24, _⟩ => ⟨S1x384x2816, .bf16⟩
  | .local _ .vmem, ⟨25, _⟩ => ⟨S1x384x2816, .bf16⟩
  | .local _ .vmem, ⟨26, _⟩ => ⟨S1x2816x2816, .bf16⟩
  | .local _ .vmem, ⟨27, _⟩ => ⟨S1x2816x2816, .bf16⟩
  | .local _ .vmem, ⟨28, _⟩ => ⟨S1x384x2816, .i8⟩
  | .local _ .vmem, ⟨29, _⟩ => ⟨S1x384x2816, .i8⟩
  | .local _ .vmem, ⟨30, _⟩ => ⟨S1x384x11, .f32⟩
  | .local _ .vmem, ⟨31, _⟩ => ⟨S1x384x11, .f32⟩
  | .local _ .vmem, ⟨32, _⟩ => ⟨S1x384x2816, .bf16⟩
  | .local _ .vmem, ⟨33, _⟩ => ⟨S1x384x2816, .bf16⟩
  | .local _ .vmem, ⟨34, _⟩ => ⟨S1x384x2816, .i8⟩
  | .local _ .vmem, ⟨35, _⟩ => ⟨S1x384x2816, .i8⟩
  | .local _ .vmem, ⟨36, _⟩ => ⟨S1x384x11, .f32⟩
  | .local _ .vmem, ⟨37, _⟩ => ⟨S1x384x11, .f32⟩
  | .local _ .vmem, ⟨38, _⟩ => ⟨S1x384x2688, .bf16⟩
  | .local _ .vmem, ⟨39, _⟩ => ⟨S1x384x2688, .bf16⟩
  | .local _ .vmem, ⟨40, _⟩ => ⟨S1x2688x2816, .bf16⟩
  | .local _ .vmem, ⟨41, _⟩ => ⟨S1x2688x2816, .bf16⟩
  | .local _ .vmem, ⟨42, _⟩ => ⟨S1x384x2816, .bf16⟩
  | .local _ .vmem, ⟨43, _⟩ => ⟨S1x384x2816, .bf16⟩
  | .local _ .vmem, ⟨44, _⟩ => ⟨S1x192x2816, .bf16⟩
  | .local _ .vmem, ⟨45, _⟩ => ⟨S1x192x2816, .bf16⟩
  | .local _ .vmem, ⟨46, _⟩ => ⟨S1x2816x2816, .bf16⟩
  | .local _ .vmem, ⟨47, _⟩ => ⟨S1x2816x2816, .bf16⟩
  | .local _ .vmem, ⟨48, _⟩ => ⟨S1x192x2816, .f32⟩
  | .local _ .vmem, ⟨49, _⟩ => ⟨S1x192x2816, .f32⟩
  | .local _ .vmem, ⟨50, _⟩ => ⟨S1x192x2816, .f32⟩
  | .local _ .vmem, ⟨51, _⟩ => ⟨S1x192x2816, .f32⟩
  | .local _ .vmem, ⟨52, _⟩ => ⟨S1x192x2816, .f32⟩
  | .local _ .vmem, ⟨53, _⟩ => ⟨S1x192x2816, .f32⟩
  | .local _ .vmem, ⟨54, _⟩ => ⟨S1x2688x2816, .bf16⟩
  | .local _ .vmem, ⟨55, _⟩ => ⟨S1x2688x2816, .bf16⟩
  | .local _ .vmem, ⟨56, _⟩ => ⟨S1x384x2688, .f32⟩
  | .local _ .vmem, ⟨57, _⟩ => ⟨S1x384x2688, .f32⟩
  | .local _ .vmem, ⟨58, _⟩ => ⟨S1x384x2688, .f32⟩
  | .local _ .vmem, ⟨59, _⟩ => ⟨S1x384x2688, .f32⟩
  | .local _ .vmem, ⟨60, _⟩ => ⟨S21x384x384, .f32⟩
  | .local _ .vmem, ⟨61, _⟩ => ⟨S1x2688x2816, .bf16⟩
  | .local _ .vmem, ⟨62, _⟩ => ⟨S1x2688x2816, .bf16⟩
  | .local _ .vmem, ⟨63, _⟩ => ⟨S1x256x2816, .f32⟩
  | .local _ .vmem, ⟨64, _⟩ => ⟨S1x256x2816, .f32⟩
  | .local _ .vmem, ⟨65, _⟩ => ⟨S1x256x2816, .f32⟩
  | .local _ .vmem, ⟨66, _⟩ => ⟨S1x256x2816, .f32⟩
  | .local _ .vmem, ⟨67, _⟩ => ⟨S55x256x256, .f32⟩
  | .local _ .smem, ⟨0, _⟩ => ⟨S3, .f32⟩
  | _, _ => ⟨S3x2688x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .smem, ⟨0, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v13_3 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev main_v15_2 : Ref sig .tc := ⟨.hbm, 36, rfl⟩
abbrev main_v16 : Ref sig .tc := ⟨.hbm, 37, rfl⟩
abbrev main_v17_0 : Ref sig .tc := ⟨.hbm, 38, rfl⟩
abbrev main_v17_1 : Ref sig .tc := ⟨.hbm, 39, rfl⟩
abbrev main_v18 : Ref sig .tc := ⟨.hbm, 40, rfl⟩
abbrev main_v19 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg2_1 : Ref sig .tc := ⟨.vmem, 59, rfl⟩
abbrev cc5_scratch0 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg1_1 : Ref sig .tc := ⟨.vmem, 64, rfl⟩
abbrev cc6_stg2_0 : Ref sig .tc := ⟨.vmem, 65, rfl⟩
abbrev cc6_stg2_1 : Ref sig .tc := ⟨.vmem, 66, rfl⟩
abbrev cc6_scratch0 : Ref sig .tc := ⟨.vmem, 67, rfl⟩
abbrev cc4_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc2_sem7_0 : DmaSem sig := 36
abbrev cc2_sem7_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc4_sem0_0 : DmaSem sig := 44
abbrev cc4_sem1_0 : DmaSem sig := 45
abbrev cc4_sem1_1 : DmaSem sig := 46
abbrev cc4_sem2_0 : DmaSem sig := 47
abbrev cc4_sem2_1 : DmaSem sig := 48
abbrev cc4_sem3_0 : DmaSem sig := 49
abbrev cc4_sem3_1 : DmaSem sig := 50
abbrev cc4_sem4_0 : DmaSem sig := 51
abbrev cc4_sem4_1 : DmaSem sig := 52
abbrev cc4_sem5_0 : DmaSem sig := 53
abbrev cc4_sem5_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc6_sem0_0 : DmaSem sig := 61
abbrev cc6_sem0_1 : DmaSem sig := 62
abbrev cc6_sem1_0 : DmaSem sig := 63
abbrev cc6_sem1_1 : DmaSem sig := 64
abbrev cc6_sem2_0 : DmaSem sig := 65
abbrev cc6_sem2_1 : DmaSem sig := 66

abbrev nD : Nat := 1
abbrev τ : Topo := Topo.v7x

variable {F : FTy → Type} [FloatOps F]

abbrev grid0 : Pipeline.Grid := ⟨2, ![3, 7], ![false, false]⟩

def k0_mult1 (i : grid0.Coords) : BitVec 32 :=
  let arg1 : BitVec 32 := BitVec.ofNat 32 (i 1).val
  let c384_i32 : BitVec 32 := 384#32
  let v44 : BitVec 32 := Scalar.muli arg1 c384_i32
  v44
def k0_off1 (i : grid0.Coords) : Fin 3 → Nat :=
  let c0_45 : Index := 0#32
  let arg1 : BitVec 32 := BitVec.ofNat 32 (i 1).val
  let c384_i32 : BitVec 32 := 384#32
  let v44 : BitVec 32 := Scalar.muli arg1 c384_i32
  let v45 : BitVec 32 := v44
  let v55 : Index := Scalar.indexCast v45
  let c0_46 : Index := 0#32
  ![0, v55.toNat, 0]
def k0_off2 (i : grid0.Coords) : Fin 3 → Nat :=
  let c0_66 : Index := 0#32
  let arg1 : BitVec 32 := BitVec.ofNat 32 (i 1).val
  let c384_i32 : BitVec 32 := 384#32
  let v44 : BitVec 32 := Scalar.muli arg1 c384_i32
  let v45 : BitVec 32 := v44
  let v100 : Index := Scalar.indexCast v45
  let c256_67 : Index := 256#32
  ![0, v100.toNat, 256]
def k0_off3 (i : grid0.Coords) : Fin 3 → Nat :=
  let c0_90 : Index := 0#32
  let arg1 : BitVec 32 := BitVec.ofNat 32 (i 1).val
  let c384_i32 : BitVec 32 := 384#32
  let v44 : BitVec 32 := Scalar.muli arg1 c384_i32
  let v45 : BitVec 32 := v44
  let v145 : Index := Scalar.indexCast v45
  let c512_91 : Index := 512#32
  ![0, v145.toNat, 512]
def k0_off4 (i : grid0.Coords) : Fin 3 → Nat :=
  let c0_113 : Index := 0#32
  let arg1 : BitVec 32 := BitVec.ofNat 32 (i 1).val
  let c384_i32 : BitVec 32 := 384#32
  let v44 : BitVec 32 := Scalar.muli arg1 c384_i32
  let v45 : BitVec 32 := v44
  let v190 : Index := Scalar.indexCast v45
  let c768_114 : Index := 768#32
  ![0, v190.toNat, 768]
def k0_off5 (i : grid0.Coords) : Fin 3 → Nat :=
  let c0_137 : Index := 0#32
  let arg1 : BitVec 32 := BitVec.ofNat 32 (i 1).val
  let c384_i32 : BitVec 32 := 384#32
  let v44 : BitVec 32 := Scalar.muli arg1 c384_i32
  let v45 : BitVec 32 := v44
  let v235 : Index := Scalar.indexCast v45
  let c1024_138 : Index := 1024#32
  ![0, v235.toNat, 1024]
def k0_off6 (i : grid0.Coords) : Fin 3 → Nat :=
  let c0_160 : Index := 0#32
  let arg1 : BitVec 32 := BitVec.ofNat 32 (i 1).val
  let c384_i32 : BitVec 32 := 384#32
  let v44 : BitVec 32 := Scalar.muli arg1 c384_i32
  let v45 : BitVec 32 := v44
  let v280 : Index := Scalar.indexCast v45
  let c1280_161 : Index := 1280#32
  ![0, v280.toNat, 1280]
def k0_off7 (i : grid0.Coords) : Fin 3 → Nat :=
  let c0_184 : Index := 0#32
  let arg1 : BitVec 32 := BitVec.ofNat 32 (i 1).val
  let c384_i32 : BitVec 32 := 384#32
  let v44 : BitVec 32 := Scalar.muli arg1 c384_i32
  let v45 : BitVec 32 := v44
  let v325 : Index := Scalar.indexCast v45
  let c1536_185 : Index := 1536#32
  ![0, v325.toNat, 1536]
def k0_off8 (i : grid0.Coords) : Fin 3 → Nat :=
  let c0_207 : Index := 0#32
  let arg1 : BitVec 32 := BitVec.ofNat 32 (i 1).val
  let c384_i32 : BitVec 32 := 384#32
  let v44 : BitVec 32 := Scalar.muli arg1 c384_i32
  let v45 : BitVec 32 := v44
  let v370 : Index := Scalar.indexCast v45
  let c1792_208 : Index := 1792#32
  ![0, v370.toNat, 1792]
def k0_off9 (i : grid0.Coords) : Fin 3 → Nat :=
  let c0_231 : Index := 0#32
  let arg1 : BitVec 32 := BitVec.ofNat 32 (i 1).val
  let c384_i32 : BitVec 32 := 384#32
  let v44 : BitVec 32 := Scalar.muli arg1 c384_i32
  let v45 : BitVec 32 := v44
  let v415 : Index := Scalar.indexCast v45
  let c2048_232 : Index := 2048#32
  ![0, v415.toNat, 2048]
def k0_off10 (i : grid0.Coords) : Fin 3 → Nat :=
  let c0_254 : Index := 0#32
  let arg1 : BitVec 32 := BitVec.ofNat 32 (i 1).val
  let c384_i32 : BitVec 32 := 384#32
  let v44 : BitVec 32 := Scalar.muli arg1 c384_i32
  let v45 : BitVec 32 := v44
  let v460 : Index := Scalar.indexCast v45
  let c2304_255 : Index := 2304#32
  ![0, v460.toNat, 2304]
def k0_off11 (i : grid0.Coords) : Fin 3 → Nat :=
  let c0_278 : Index := 0#32
  let arg1 : BitVec 32 := BitVec.ofNat 32 (i 1).val
  let c384_i32 : BitVec 32 := 384#32
  let v44 : BitVec 32 := Scalar.muli arg1 c384_i32
  let v45 : BitVec 32 := v44
  let v505 : Index := Scalar.indexCast v45
  let c2560_279 : Index := 2560#32
  ![0, v505.toNat, 2560]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2688x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2688x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x384x2816 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x11 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x2816 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x11 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![3, 7], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2688x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2688x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x384x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![3, 7], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x384x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x384x2816 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2816x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x384x2816 .i8 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x384x11 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x384x2816 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x384x2816 .i8 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x384x11 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![3, 7], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x384x2688 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2688x2816 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x384x2816 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![3, 14], ![false, false]⟩

def k4_off1 (i : grid4.Coords) : Fin 1 → Nat :=
  let arg0 : BitVec 32 := BitVec.ofNat 32 (i 0).val
  let v0 : Index := Scalar.indexCast arg0
  ![v0.toNat]
def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 1 → Memref sig .tc .smem S3 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S1x192x2816 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x2816x2816 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x192x2816 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x192x2816 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x192x2816 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![3, 7], ![false, false]⟩

def k5_cond1 (i : grid5.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k5_cond2 (i : grid5.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k5_cond3 (i : grid5.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k5_cond4 (i : grid5.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k5_cond5 (i : grid5.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k5_cond6 (i : grid5.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k5_cond7 (i : grid5.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x2688x2816 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1x384x2688 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x384x2688 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![3, 11], ![false, false]⟩

def k6_cond1 (i : grid6.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k6_cond2 (i : grid6.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k6_cond3 (i : grid6.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k6_cond4 (i : grid6.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k6_cond5 (i : grid6.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k6_cond6 (i : grid6.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k6_cond7 (i : grid6.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k6_cond8 (i : grid6.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def k6_cond9 (i : grid6.Coords) : BitVec 1 :=
  let arg1 : BitVec 32 := BitVec.ofNat 32 (i 1).val
  let c8_i32 : BitVec 32 := 8#32
  let v24 : BitVec 1 := Scalar.cmpi .eq arg1 c8_i32
  let v25 : BitVec 32 := Scalar.extui v24
  let c0_i32_8 : BitVec 32 := 0#32
  let v26 : BitVec 1 := Scalar.cmpi .ne v25 c0_i32_8
  v26

def k6_cond10 (i : grid6.Coords) : BitVec 1 :=
  let arg1 : BitVec 32 := BitVec.ofNat 32 (i 1).val
  let c9_i32 : BitVec 32 := 9#32
  let v27 : BitVec 1 := Scalar.cmpi .eq arg1 c9_i32
  let v28 : BitVec 32 := Scalar.extui v27
  let c0_i32_9 : BitVec 32 := 0#32
  let v29 : BitVec 1 := Scalar.cmpi .ne v28 c0_i32_9
  v29

def k6_cond11 (i : grid6.Coords) : BitVec 1 :=
  let arg1 : BitVec 32 := BitVec.ofNat 32 (i 1).val
  let c10_i32 : BitVec 32 := 10#32
  let v30 : BitVec 1 := Scalar.cmpi .eq arg1 c10_i32
  let v31 : BitVec 32 := Scalar.extui v30
  let c0_i32_10 : BitVec 32 := 0#32
  let v32 : BitVec 1 := Scalar.cmpi .ne v31 c0_i32_10
  v32

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x2688x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1x256x2816 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x256x2816 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]
-- ==== ReferenceIdeal.lean ====
abbrev S3x2688x2816 : Shape := ⟨3, ![3, 2688, 2816]⟩
abbrev S3x2688x2688 : Shape := ⟨3, ![3, 2688, 2688]⟩
abbrev S3x2816x2816 : Shape := ⟨3, ![3, 2816, 2816]⟩
abbrev S3x2688x11 : Shape := ⟨3, ![3, 2688, 11]⟩
abbrev S3 : Shape := ⟨1, ![3]⟩
abbrev S3x2688x11x256 : Shape := ⟨4, ![3, 2688, 11, 256]⟩
abbrev S3x2688x11x1 : Shape := ⟨4, ![3, 2688, 11, 1]⟩
abbrev S_ : Shape := ⟨0, ![]⟩
abbrev S3x1x1 : Shape := ⟨3, ![3, 1, 1]⟩

abbrev nBuf : Space → Nat
  | .hbm => 151
  | .vmem => 0
  | .smem => 0
  | _ => 0

abbrev hbmTy0_0 (i : Nat) : BufTy := match i % 128 with
  | 0 => ⟨S3x2688x2816, .f32⟩
  | 1 => ⟨S3x2688x2816, .bf16⟩
  | 2 => ⟨S3x2688x2688, .bf16⟩
  | 3 => ⟨S3x2816x2816, .bf16⟩
  | 4 => ⟨S3x2688x2816, .i8⟩
  | 5 => ⟨S3x2688x11, .f32⟩
  | 6 => ⟨S3x2688x2816, .i8⟩
  | 7 => ⟨S3x2688x11, .f32⟩
  | 8 => ⟨S3x2688x2688, .f32⟩
  | 9 => ⟨S3x2816x2816, .f32⟩
  | 10 => ⟨S3, .i32⟩
  | 11 => ⟨S3x2688x2816, .i32⟩
  | 12 => ⟨S3x2688x2816, .f32⟩
  | 13 => ⟨S3x2688x11x256, .f32⟩
  | 14 => ⟨S3x2688x11x1, .f32⟩
  | 15 => ⟨S3x2688x11x256, .f32⟩
  | 16 => ⟨S3x2688x11x256, .f32⟩
  | 17 => ⟨S3x2688x2816, .f32⟩
  | 18 => ⟨S_, .f32⟩
  | 19 => ⟨S3x2688x2816, .f32⟩
  | 20 => ⟨S3x2688x2816, .f32⟩
  | 21 => ⟨S3x2688x2816, .f32⟩
  | 22 => ⟨S_, .f32⟩
  | 23 => ⟨S3x2688x2816, .f32⟩
  | 24 => ⟨S3x2688x2816, .f32⟩
  | 25 => ⟨S3x2688x2816, .f32⟩
  | 26 => ⟨S3x2688x11x256, .f32⟩
  | 27 => ⟨S3x2688x11x256, .f32⟩
  | 28 => ⟨S_, .f32⟩
  | 29 => ⟨S3x2688x11, .f32⟩
  | 30 => ⟨S_, .f32⟩
  | 31 => ⟨S3x2688x11, .f32⟩
  | 32 => ⟨S3x2688x11, .i1⟩
  | 33 => ⟨S_, .f32⟩
  | 34 => ⟨S3x2688x11, .f32⟩
  | 35 => ⟨S3x2688x11, .f32⟩
  | 36 => ⟨S_, .f32⟩
  | 37 => ⟨S3x2688x11, .f32⟩
  | 38 => ⟨S3x2688x11, .f32⟩
  | 39 => ⟨S3x2688x11x1, .f32⟩
  | 40 => ⟨S3x2688x11x256, .f32⟩
  | 41 => ⟨S3x2688x11x256, .f32⟩
  | 42 => ⟨S3x2688x11x256, .f32⟩
  | 43 => ⟨S_, .i32⟩
  | 44 => ⟨S_, .i32⟩
  | 45 => ⟨S_, .f32⟩
  | 46 => ⟨S3x2688x11x256, .f32⟩
  | 47 => ⟨S3x2688x11x256, .f32⟩
  | 48 => ⟨S_, .f32⟩
  | 49 => ⟨S3x2688x11x256, .f32⟩
  | 50 => ⟨S3x2688x11x256, .f32⟩
  | 51 => ⟨S3x2688x11x256, .i32⟩
  | 52 => ⟨S3x2688x11x256, .i8⟩
  | 53 => ⟨S3x2688x2816, .i8⟩
  | 54 => ⟨S3x2688x2816, .f32⟩
  | 55 => ⟨S3x2688x2816, .bf16⟩
  | 56 => ⟨S3x2688x2816, .f32⟩
  | 57 => ⟨S3x2688x2816, .i32⟩
  | 58 => ⟨S3x2688x2816, .f32⟩
  | 59 => ⟨S3x2688x11x256, .f32⟩
  | 60 => ⟨S3x2688x11x1, .f32⟩
  | 61 => ⟨S3x2688x11x256, .f32⟩
  | 62 => ⟨S3x2688x11x256, .f32⟩
  | 63 => ⟨S3x2688x2816, .f32⟩
  | 64 => ⟨S_, .f32⟩
  | 65 => ⟨S3x2688x2816, .f32⟩
  | 66 => ⟨S3x2688x2816, .f32⟩
  | 67 => ⟨S_, .f32⟩
  | 68 => ⟨S3x2688x2816, .f32⟩
  | 69 => ⟨S3x2688x2816, .f32⟩
  | 70 => ⟨S3x2688x2816, .f32⟩
  | 71 => ⟨S3x2688x2816, .f32⟩
  | 72 => ⟨S3x2688x11x256, .f32⟩
  | 73 => ⟨S_, .f32⟩
  | 74 => ⟨S3x2688x11, .f32⟩
  | 75 => ⟨S_, .f32⟩
  | 76 => ⟨S3x2688x11, .f32⟩
  | 77 => ⟨S3x2688x11, .i1⟩
  | 78 => ⟨S_, .f32⟩
  | 79 => ⟨S3x2688x11, .f32⟩
  | 80 => ⟨S3x2688x11, .f32⟩
  | 81 => ⟨S_, .f32⟩
  | 82 => ⟨S3x2688x11, .f32⟩
  | 83 => ⟨S3x2688x11, .f32⟩
  | 84 => ⟨S3x2688x11x1, .f32⟩
  | 85 => ⟨S3x2688x11x256, .f32⟩
  | 86 => ⟨S3x2688x11x256, .f32⟩
  | 87 => ⟨S3x2688x11x256, .f32⟩
  | 88 => ⟨S_, .i32⟩
  | 89 => ⟨S_, .i32⟩
  | 90 => ⟨S_, .f32⟩
  | 91 => ⟨S3x2688x11x256, .f32⟩
  | 92 => ⟨S3x2688x11x256, .f32⟩
  | 93 => ⟨S_, .f32⟩
  | 94 => ⟨S3x2688x11x256, .f32⟩
  | 95 => ⟨S3x2688x11x256, .f32⟩
  | 96 => ⟨S3x2688x11x256, .i32⟩
  | 97 => ⟨S3x2688x11x256, .i8⟩
  | 98 => ⟨S3x2688x2816, .i8⟩
  | 99 => ⟨S3x2688x2816, .bf16⟩
  | 100 => ⟨S3x2688x2816, .f32⟩
  | 101 => ⟨S3x2688x2816, .bf16⟩
  | 102 => ⟨S3x2688x2816, .f32⟩
  | 103 => ⟨S3x2688x2816, .f32⟩
  | 104 => ⟨S_, .f32⟩
  | 105 => ⟨S3x2688x2816, .f32⟩
  | 106 => ⟨S3x2688x2816, .f32⟩
  | 107 => ⟨S3x2688x2816, .f32⟩
  | 108 => ⟨S3x2688x2816, .bf16⟩
  | 109 => ⟨S3x2688x2816, .f32⟩
  | 110 => ⟨S3x2688x2816, .bf16⟩
  | 111 => ⟨S3x2688x2816, .f32⟩
  | 112 => ⟨S3, .f32⟩
  | 113 => ⟨S_, .f32⟩
  | 114 => ⟨S3, .f32⟩
  | 115 => ⟨S3, .f32⟩
  | 116 => ⟨S_, .f32⟩
  | 117 => ⟨S3, .f32⟩
  | 118 => ⟨S3, .f32⟩
  | 119 => ⟨S3, .f32⟩
  | 120 => ⟨S_, .f32⟩
  | 121 => ⟨S3, .f32⟩
  | 122 => ⟨S3, .f32⟩
  | 123 => ⟨S_, .f32⟩
  | 124 => ⟨S3, .f32⟩
  | 125 => ⟨S3, .f32⟩
  | 126 => ⟨S_, .f32⟩
  | 127 => ⟨S3, .f32⟩
  | _ => ⟨S3x2688x2816, .f32⟩

abbrev hbmTy0_1 (i : Nat) : BufTy := match i % 128 with
  | 0 => ⟨S3, .f32⟩
  | 1 => ⟨S3, .f32⟩
  | 2 => ⟨S3x1x1, .f32⟩
  | 3 => ⟨S3x1x1, .f32⟩
  | 4 => ⟨S3x2688x2816, .f32⟩
  | 5 => ⟨S3x2688x2816, .f32⟩
  | 6 => ⟨S3x2688x2816, .f32⟩
  | 7 => ⟨S3x2688x2688, .f32⟩
  | 8 => ⟨S3x2816x2816, .f32⟩
  | 9 => ⟨S_, .f32⟩
  | 10 => ⟨S3x2688x2688, .f32⟩
  | 11 => ⟨S3x2688x2688, .f32⟩
  | 12 => ⟨S_, .f32⟩
  | 13 => ⟨S3x2688x2688, .f32⟩
  | 14 => ⟨S3x2688x2688, .f32⟩
  | 15 => ⟨S3x2688x2688, .f32⟩
  | 16 => ⟨S_, .f32⟩
  | 17 => ⟨S3x2816x2816, .f32⟩
  | 18 => ⟨S3x2816x2816, .f32⟩
  | 19 => ⟨S_, .f32⟩
  | 20 => ⟨S3x2816x2816, .f32⟩
  | 21 => ⟨S3x2816x2816, .f32⟩
  | 22 => ⟨S3x2816x2816, .f32⟩
  | _ => ⟨S3x2688x2816, .f32⟩

abbrev hbmTy (i : Nat) : BufTy := match i / 128 with
  | 0 => hbmTy0_0 i
  | 1 => hbmTy0_1 i
  | _ => ⟨S3x2688x2816, .f32⟩

abbrev bufTy : (tb : Table) → Fin (tcTables nBuf tb) → BufTy
  | .hbm, ⟨i, _⟩ => hbmTy i
  | _, _ => ⟨S3x2688x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_c_5 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_call3_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_12 : Ref sig .tc := ⟨.hbm, 88, rfl⟩
abbrev main_c_13 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_14 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_15 : Ref sig .tc := ⟨.hbm, 113, rfl⟩
abbrev main_v73 : Ref sig .tc := ⟨.hbm, 114, rfl⟩
abbrev main_v74 : Ref sig .tc := ⟨.hbm, 115, rfl⟩
abbrev main_cst_16 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_17 : Ref sig .tc := ⟨.hbm, 120, rfl⟩
abbrev main_v78 : Ref sig .tc := ⟨.hbm, 121, rfl⟩
abbrev main_v79 : Ref sig .tc := ⟨.hbm, 122, rfl⟩
abbrev main_cst_18 : Ref sig .tc := ⟨.hbm, 123, rfl⟩
abbrev main_v80 : Ref sig .tc := ⟨.hbm, 124, rfl⟩
abbrev main_v81 : Ref sig .tc := ⟨.hbm, 125, rfl⟩
abbrev main_cst_19 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_20 : Ref sig .tc := ⟨.hbm, 137, rfl⟩
abbrev main_v92 : Ref sig .tc := ⟨.hbm, 138, rfl⟩
abbrev main_v93 : Ref sig .tc := ⟨.hbm, 139, rfl⟩
abbrev main_cst_21 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_22 : Ref sig .tc := ⟨.hbm, 144, rfl⟩
abbrev main_v97 : Ref sig .tc := ⟨.hbm, 145, rfl⟩
abbrev main_v98 : Ref sig .tc := ⟨.hbm, 146, rfl⟩
abbrev main_cst_23 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩

abbrev nD : Nat := 1
abbrev τ : Topo := Topo.v7x

variable {F : FTy → Type} [FloatOps F]
-- ==== Proof.Run.lean ====
/-
The program as a chain of calls. Given, for each of the seven calls, what one grid point does (`Call`), the whole
program runs to the end from every memory, and at the end every array holds what the chain of valuations `W` says:
`W 0` is the memory after the arithmetic on `step` that precedes the first call, and `W (k + 1)` is `W k` with the
arrays of call `k` at what that call leaves in them.
-/
module

public import proofs.«01_k».proof.Proof.Gen.KernelIdeal.Regions
public import Idealize.ShloMosaic.Lib.Pipeline.FrameBody
public import Idealize.ShloMosaic.Lib.Pipeline.FrameTail
public import Idealize.ShloMosaic.Lib.Pipeline.RegionArraysS
public import Idealize.ShloMosaic.Lib.Claim

@[expose] public section

set_option maxRecDepth 16384

noncomputable section

namespace Cert.KernelIdeal.Soap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligationLoose)

variable {F : FTy → Type} [FloatOps F]

local notation "𝕄" => MT nD τ sig Unit (Elt F) ℕ (UR sig nD τ) ℕ

variable (F) in
/-- What is known of call `p`: the proof data from any values in the arrays, and the body's obligation. -/
structure Call (p : Fin 7) where
  dat : (Dev nD → Valuation τ sig (Elt F)) → (c : Dev nD) → Dat τ (Elt F) Unit ℕ (UR sig nD τ) ℕ (cfgs p) c
  arr : ∀ V c w, (dat V c).A w = V c (Proc.devRef .tc (Pipeline.arrRef (cfgs p).spec w))
  body : ∀ V c, BodyObligationLoose (dat V c) (defs₀ (F := F)) Variants.none () Set.univ
  owed : ∀ V c t, (dat V c).owed t = 0
  recd : ∀ V c, (dat V c).recorded 0 = Set.univ
  share : ∀ V c w, (dat V c).share w = fullShare
  hin : ∀ V c, (Pipeline.ΦA (cfgs p).spec c : sProp 𝕄) ⊢ (dat V c).Φ 0
  hout : ∀ V c, (dat V c).Φ (Fin.last (cfgs p).N) ⊢ (Pipeline.ΦA (cfgs p).spec c : sProp 𝕄)

variable (calls : (p : Fin 7) → Call F p)
variable (m : (ℓ : Loc nD τ sig) → Buf (Elt F) ℓ) (ρ : Dev nD → PrngReg)

/-- The unscoped buffers of core `c` before call `k`. -/
def W : ℕ → Dev nD → Valuation τ sig (Elt F)
  | 0, c => V1 m c
  | k + 1, c => if h : k < 7 then Pipeline.afterRegion ((calls ⟨k, h⟩).dat (W k) c) (W k c) else W k c

theorem W_succ (p : Fin 7) (c : Dev nD) :
    W calls m (p + 1) c = Pipeline.afterRegion ((calls p).dat (W calls m p) c) (W calls m p c) := by
  show (if h : p.val < 7 then _ else _) = _
  rw [dif_pos p.isLt]

/-- The proof data of call `p` in this program. -/
def pdat (p : Fin 7) (c : Dev nD) : Dat τ (Elt F) Unit ℕ (UR sig nD τ) ℕ (cfgs p) c := (calls p).dat (W calls m p) c

/-- The one level: every wait is on a staging copy. -/
def L (g : GSem nD τ sig) : Finset Unit := if g.1.2 = .tc then {()} else ∅
def lv (_ : GSem nD τ sig) (_ : Unit) : ℕ := 0

theorem L_of_ne (g : GSem nD τ sig) (h : g.1.2 ≠ .tc) : L g = ∅ := if_neg h

theorem levelCut (p : Fin 7) : Pipeline.LevelCut (pcfgs (F := F)) adm () L lv p (fun _ => 0) (fun _ => 0) where
  hι c w s := by
    show () ∈ L _
    unfold L; rw [if_pos rfl]; exact Finset.mem_singleton_self _
  hιb c w s := le_refl _
  hD c g i h := absurd h (by simp)

theorem launch : ∀ p : Fin 7, Pipeline.LaunchFacts (nD := nD) (τ := τ) cfgs p
  | 0 => launch0 | 1 => launch1 | 2 => launch2 | 3 => launch3 | 4 => launch4 | 5 => launch5 | 6 => launch6

theorem arr_inj (p : Fin 7) : Function.Injective (Pipeline.arrRef (cfgs p).spec) := (launch p).win.arr_inj

/-- The generator's register at some value: carried through every call. -/
abbrev X (c : Dev nD) : sProp 𝕄 := iprop(∃ r, prngReg c r)

/-- Call `p` as a segment of the run. -/
def callSeg (p : Fin 7) : RegionSeg (pcfgs (F := F)) adm (pdat calls m) () defs₀ Variants.none L lv p :=
  RegionSeg.ofHeldIn (pcfgs (F := F)) adm (pdat calls m) () defs₀ Variants.none L lv p (fun _ => 0)
    (Pipeline.ucRefs τ sig) X X (launch p).toP rfl
    (fun c => (calls p).body _ c) (fun c t => (calls p).owed _ c t) (fun c => (calls p).recd _ c)
    (fun c w => (calls p).share _ c w) (fun c => (calls p).hin _ c) (fun c => (calls p).hout _ c)
    (fun _ => 0) (levelCut p) (fun _ => iprop(emp)) (W calls m p) (fun c w => (calls p).arr _ c w)

/-- What core `c` holds before call `k`. -/
def T (k : ℕ) (c : Dev nD) : sProp 𝕄 :=
  iprop(StableHlo.held (c : Thread nD τ) (Pipeline.ucRefs τ sig) (W calls m k c)
    ∗ ((∃ Wd, owes (c : Thread nD τ) (0 : CellTallies nD τ sig Unit) Wd) ∗ X c ∗ emp))

theorem arrs_held (p : Fin 7) : Pipeline.arrRefs (pcfgs (F := F) p).spec ⊆ Pipeline.ucRefs τ sig :=
  Pipeline.arrRefs_sub_ucRefs (cfgs p).spec (launch p).win.arr_unscoped

theorem callSeg_pre (p : Fin 7) (c : Dev nD) : T calls m p c ⊢ (callSeg calls m p).pre c := by
  unfold T callSeg
  exact RegionSeg.ofHeldIn_pre (pcs := pcfgs (F := F)) (a := adm) (pdats := pdat calls m) (p := p) (D := fun _ => 0)
    (S := Pipeline.ucRefs τ sig) (arrs_held p) (X := X) (Y := X) (R := fun _ => iprop(emp)) (W := W calls m p) c

theorem callSeg_post (p : Fin 7) (c : Dev nD) : (callSeg calls m p).post c ⊢ T calls m (p + 1) c := by
  unfold T callSeg; rw [W_succ]
  exact RegionSeg.ofHeldIn_post (pcs := pcfgs (F := F)) (a := adm) (pdats := pdat calls m) (p := p) (D := fun _ => 0)
    (S := Pipeline.ucRefs τ sig) (arrs_held p) (X := X) (Y := X) (R := fun _ => iprop(emp)) (W := W calls m p) c

/-- The rest beside the buffers. -/
abbrev E (c : Dev nD) : sProp 𝕄 :=
  iprop((∃ Wd, owes (c : Thread nD τ) (0 : CellTallies nD τ sig Unit) Wd) ∗ X c ∗ emp)

abbrev EP : Emb (UR sig nD τ) (MT nD τ sig Unit (Elt F) ℕ (UR sig nD τ) ℕ) := emb₁
variable (F) in
def u₀ : UR sig nD τ := initOf (Pipeline.cells (Pipeline.pin (pcfgs (F := F)) adm) cellOf_inj)
  (Pipeline.launchToks (Pipeline.pin (pcfgs (F := F)) adm) cellOf_inj)

/-- The program's run as the kit's segments. -/
abbrev mySegs : Dev nD → List (Seg (pcfgs (F := F)) adm (pdat calls m) () defs₀ Variants.none L lv) :=
  segs m Variants.none L lv (fun _ => E) () (pdat calls m) (callSeg calls m 0) (callSeg calls m 1) (callSeg calls m 2)
    (callSeg calls m 3) (callSeg calls m 4) (callSeg calls m 5) (callSeg calls m 6)

theorem T_last (c : Dev nD) : T calls m 7 c ⊢ iprop(StableHlo.held (c : Thread nD τ) (Pipeline.ucRefs τ sig) (W calls m 7 c)
    ∗ ∃ Wd, owes (c : Thread nD τ) (0 : CellTallies nD τ sig Unit) Wd) := by
  unfold T
  iintro ⟨Hh, HO, -, -⟩
  isplitl [Hh]; · iexact Hh
  iexact HO

set_option backward.isDefEq.respectTransparency.types false in
/-- The whole run: it ends, every unscoped buffer holds what `W 7` says, and every counter is zero. -/
theorem run : θ_run defs (onTc (τ := τ) (main (F := F))) ⟨m, fun _ => 0, ρ⟩ (fun r =>
    (∀ (c : Dev nD), ∀ b ∈ Pipeline.ucRefs τ sig, r.2.mem (c, b) = W calls m 7 c b) ∧ r.2.sem = fun _ => 0) := by
  refine Pipeline.θ_run_regions_kit_dev_sems (pcfgs (F := F)) adm (pdat calls m) () cellOf_inj EP defs₀ Variants.none L lv m ρ main
    (mySegs calls m)
    (fun c Q => by
      rewrite [main_chain c, Seg.run_eq_chain,
        show (mySegs calls m c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          Prog.lift (.customCall (Pipeline.entry 6) ()) ] from rfl]
      dsimp (config := { failIfUnchanged := false }) only
      exact .rfl)
    (fun c => by simp only [mySegs, segs, Seg.pipes_host, Seg.pipes_region, Seg.pipes_nil]; decide)
    (fun _ => 0) L_of_ne (fun _ => iprop(emp)) (u₀ F) ?hu₀
    (T₀ := fun c => iprop(StableHlo.held (c : Thread nD τ) (Pipeline.ucRefs τ sig) (V0 m c) ∗ E c))
    (Tₙ := fun c => StableHlo.held (c : Thread nD τ) (Pipeline.ucRefs τ sig) (W calls m 7 c))
    (hch := fun c => ⟨.rfl, callSeg_pre calls m 0 c, (callSeg_post calls m 0 c).trans (callSeg_pre calls m 1 c),
      (callSeg_post calls m 1 c).trans (callSeg_pre calls m 2 c), (callSeg_post calls m 2 c).trans (callSeg_pre calls m 3 c),
      (callSeg_post calls m 3 c).trans (callSeg_pre calls m 4 c), (callSeg_post calls m 4 c).trans (callSeg_pre calls m 5 c),
      (callSeg_post calls m 5 c).trans (callSeg_pre calls m 6 c), (callSeg_post calls m 6 c).trans (T_last calls m c)⟩)
    (hinit := ?hinit) (QY := fun c s => ∀ b ∈ Pipeline.ucRefs τ sig, s.mem (c, b) = W calls m 7 c b)
    (hfin := fun c s' => ?hfin) (hQ := fun _ h hz => ⟨h, funext fun g => hz g (.inr (regions_no_unscoped g.2))⟩)
  case hu₀ =>
    have e : (ownU (u₀ F) : sProp 𝕄) ⊢ BI.own (EP (initOf (Pipeline.cells (Pipeline.pin (pcfgs (F := F)) adm) cellOf_inj)
        (Pipeline.launchToks (Pipeline.pin (pcfgs (F := F)) adm) cellOf_inj))) := BI.Entails.refl _
    rw [show (bigSep Finset.univ (fun _ : Dev nD => (iprop(emp) : sProp 𝕄))) = iprop(emp) from bigSep_emp_const _]
    iintro H
    imodintro
    isplitl [H]; · iapply e; iexact H
    iempintro
  case hinit =>
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ E c) : sProp 𝕄) := by
      refine bigSep_mono fun c _ => ?_
      rw [← Pipeline.unscopedBufs_held (Ix := Unit) (Name := ℕ) (U := UR sig nD τ) (Lvl := ℕ) c (V0 m c)]
      refine BIBase.Entails.trans (Q := iprop(unscopedBufs c (fun b => m ((c.tc : Thread nD τ).loc b)) ∗ unscopedSems0 c ∗ owes (c.tc : Thread nD τ) (0 : CellTallies nD τ sig Unit) ∅ ∗ Pipeline.launchCred (fun _ => 0) c ∗ prngReg c (ρ c) ∗ emp)) (BI.Entails.refl _) ?_
      iintro ⟨Hb, -, HO, -, Hp, -⟩
      isplitl [Hb]; · iexact Hb
      isplitl [HO]; · iexists _; iexact HO
      isplitl [Hp]; · iexists _; iexact Hp
      iempintro
    iintro ⟨H, -⟩
    imodintro
    iapply hsplit
    iexact H
  case hfin =>
    unfold StableHlo.held
    iintro ⟨Hh, HSI⟩
    ihave Hr := (pointsTo_read_all (Pipeline.ucRefs τ sig) (fun b => ((c : Thread nD τ).1, b)) (W calls m 7 c) s') $$ [Hh HSI]
    · isplitl [Hh] <;> iassumption
    icases Hr with ⟨%h, HSI⟩
    imodintro
    isplitr
    · ipureintro
      exact h
    · iexact HSI

end Cert.KernelIdeal.Soap

end
-- ==== Proof.Region0.lean ====
/-
The first call: one block of rows of `q_lᵀ · grad`, and the new first moment of that block of rows, rounded, quantised and scaled.
What one grid point does, for any values the call finds in its arrays.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Soap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The blocks of the windows -/

/-- The block of window `w` at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-! An input's staging buffer holds its block at every point, fetched at that point or kept from an earlier one. -/

theorem before0_0_of {c : Dev nD} (dat : Dat τ (Elt F) Unit ℕ (UR sig nD τ) ℕ cfg0 c) (hA : dat.A 0 = V c (Proc.devRef .tc (Pipeline.arrRef spec0 0)))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Proc.devRef .tc (Pipeline.arrRef spec0 1)))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Proc.devRef .tc (Pipeline.arrRef spec0 2)))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Proc.devRef .tc (Pipeline.arrRef spec0 3)))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body on any staging memrefs -/

/-- One staging buffer of output 4, through which the contents are stated. -/
abbrev VO0_4 : View sig .tc .vmem S1x384x2816 .bf16 := (Memref.whole cc0_stg4_0 : Memref sig .tc .vmem S1x384x2816 .bf16).view
/-- One staging buffer of output 5, through which the contents are stated. -/
abbrev VO0_5 : View sig .tc .vmem S1x384x2816 .bf16 := (Memref.whole cc0_stg5_0 : Memref sig .tc .vmem S1x384x2816 .bf16).view
/-- One staging buffer of output 6, through which the contents are stated. -/
abbrev VO0_6 : View sig .tc .vmem S1x384x2816 .i8 := (Memref.whole cc0_stg6_0 : Memref sig .tc .vmem S1x384x2816 .i8).view
/-- One staging buffer of output 7, through which the contents are stated. -/
abbrev VO0_7 : View sig .tc .vmem S1x384x11 .f32 := (Memref.whole cc0_stg7_0 : Memref sig .tc .vmem S1x384x11 .f32).view
/-! Each window's staging memref at point `t`, and that it is whole. -/

abbrev ms0_0 (t : Fin cfg0.N) : Memref sig .tc .vmem S1x2688x384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2688x2816 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384x2816 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384x11 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384x2816 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x384x2816 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x384x2816 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x384x11 .f32 := win0_7.stage (cfg0.slots t 7)
abbrev hs0_7 (t : Fin cfg0.N) : (ms0_7 t).IsWhole := hstage0_7 ((cfg0.slots t 7).cast nbuf0_7)

section
variable (c : Dev nD) (i : grid0.Coords) (arg2 : Memref sig .tc .vmem S1x2688x384 .bf16) (harg2 : arg2.IsWhole) (arg3 : Memref sig .tc .vmem S1x2688x2816 .bf16) (harg3 : arg3.IsWhole) (arg4 : Memref sig .tc .vmem S1x384x2816 .i8) (harg4 : arg4.IsWhole) (arg5 : Memref sig .tc .vmem S1x384x11 .f32) (harg5 : arg5.IsWhole) (arg6 : Memref sig .tc .vmem S1x384x2816 .bf16) (harg6 : arg6.IsWhole) (arg7 : Memref sig .tc .vmem S1x384x2816 .bf16) (harg7 : arg7.IsWhole) (arg8 : Memref sig .tc .vmem S1x384x2816 .i8) (harg8 : arg8.IsWhole) (arg9 : Memref sig .tc .vmem S1x384x11 .f32) (harg9 : arg9.IsWhole)
   (x0 : Vec F S1x2688x384 .bf16) (x1 : Vec F S1x2688x2816 .bf16) (x2 : Vec F S1x384x2816 .i8) (x3 : Vec F S1x384x11 .f32)

set_option maxHeartbeats 1000000 in
/-- The pieces the body's stores leave in each output's staging buffer (last first), with the proof that on whole
    staging memrefs, the inputs' at their contents, the body runs and ends with the inputs as they were and each
    output's buffer with those pieces written. -/
noncomputable def run0 :
    Σ' (L4 : List (View.Piece (Elt F) S1x384x2816 .bf16)), Σ' (L5 : List (View.Piece (Elt F) S1x384x2816 .bf16)), Σ' (L6 : List (View.Piece (Elt F) S1x384x2816 .i8)), { L7 : List (View.Piece (Elt F) S1x384x11 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_rot1g i arg2 harg2 arg3 harg3 arg4 harg4 arg5 harg5 arg6 harg6 arg7 harg7 arg8 harg8 arg9 harg9) K } := by
  refine ⟨?_, ?_, ?_, ?_, fun E K => ?run⟩
  case run =>
    simp only [cc0_rot1g_eq_skeleton]; unfold cc0_rot1g_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact H7

/-! The stores into each output cover its block, so what was there before does not matter. -/

theorem cover0_4 (y : S1x384x2816.Idx) : ∃ pc ∈ (run0 c i arg2 harg2 arg3 harg3 arg4 harg4 arg5 harg5 arg6 harg6 arg7 harg7 arg8 harg8 arg9 harg9 x0 x1 x2 x3).1, y ∈ pc.1.set :=
  View.cover_of_tiledBy (run0 c i arg2 harg2 arg3 harg3 arg4 harg4 arg5 harg5 arg6 harg6 arg7 harg7 arg8 harg8 arg9 harg9 x0 x1 x2 x3).1 ![1, 384, 256] (by sl_kernel_rfl) y
/-- What the body leaves in output 4's staging buffer. -/
def out0_4 : Vec F S1x384x2816 .bf16 :=
  VO0_4.read (Elt F) (VO0_4.writes (Elt F) VO0_4.junk (run0 c i arg2 harg2 arg3 harg3 arg4 harg4 arg5 harg5 arg6 harg6 arg7 harg7 arg8 harg8 arg9 harg9 x0 x1 x2 x3).1)
theorem cover0_5 (y : S1x384x2816.Idx) : ∃ pc ∈ (run0 c i arg2 harg2 arg3 harg3 arg4 harg4 arg5 harg5 arg6 harg6 arg7 harg7 arg8 harg8 arg9 harg9 x0 x1 x2 x3).2.1, y ∈ pc.1.set :=
  View.cover_of_tiledL (run0 c i arg2 harg2 arg3 harg3 arg4 harg4 arg5 harg5 arg6 harg6 arg7 harg7 arg8 harg8 arg9 harg9 x0 x1 x2 x3).2.1 S1x384x256.size (by sl_kernel_rfl) y
/-- What the body leaves in output 5's staging buffer. -/
def out0_5 : Vec F S1x384x2816 .bf16 :=
  VO0_5.read (Elt F) (VO0_5.writes (Elt F) VO0_5.junk (run0 c i arg2 harg2 arg3 harg3 arg4 harg4 arg5 harg5 arg6 harg6 arg7 harg7 arg8 harg8 arg9 harg9 x0 x1 x2 x3).2.1)
theorem cover0_6 (y : S1x384x2816.Idx) : ∃ pc ∈ (run0 c i arg2 harg2 arg3 harg3 arg4 harg4 arg5 harg5 arg6 harg6 arg7 harg7 arg8 harg8 arg9 harg9 x0 x1 x2 x3).2.2.1, y ∈ pc.1.set :=
  View.cover_of_tiledL (run0 c i arg2 harg2 arg3 harg3 arg4 harg4 arg5 harg5 arg6 harg6 arg7 harg7 arg8 harg8 arg9 harg9 x0 x1 x2 x3).2.2.1 S1x384x256.size (by sl_kernel_rfl) y
/-- What the body leaves in output 6's staging buffer. -/
def out0_6 : Vec F S1x384x2816 .i8 :=
  VO0_6.read (Elt F) (VO0_6.writes (Elt F) VO0_6.junk (run0 c i arg2 harg2 arg3 harg3 arg4 harg4 arg5 harg5 arg6 harg6 arg7 harg7 arg8 harg8 arg9 harg9 x0 x1 x2 x3).2.2.1)
theorem cover0_7 (y : S1x384x11.Idx) : ∃ pc ∈ (run0 c i arg2 harg2 arg3 harg3 arg4 harg4 arg5 harg5 arg6 harg6 arg7 harg7 arg8 harg8 arg9 harg9 x0 x1 x2 x3).2.2.2.1, y ∈ pc.1.set :=
  View.cover_of_tiledL (run0 c i arg2 harg2 arg3 harg3 arg4 harg4 arg5 harg5 arg6 harg6 arg7 harg7 arg8 harg8 arg9 harg9 x0 x1 x2 x3).2.2.2.1 S1x384x1.size (by sl_kernel_rfl) y
/-- What the body leaves in output 7's staging buffer. -/
def out0_7 : Vec F S1x384x11 .f32 :=
  VO0_7.read (Elt F) (VO0_7.writes (Elt F) VO0_7.junk (run0 c i arg2 harg2 arg3 harg3 arg4 harg4 arg5 harg5 arg6 harg6 arg7 harg7 arg8 harg8 arg9 harg9 x0 x1 x2 x3).2.2.2.1)
end

/-! ## What the outputs hold after each point -/

def outAt0_4 (c : Dev nD) (t : Fin cfg0.N) : Vec F S1x384x2816 .bf16 :=
  out0_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t)
def outAt0_5 (c : Dev nD) (t : Fin cfg0.N) : Vec F S1x384x2816 .bf16 :=
  out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t)
def outAt0_6 (c : Dev nD) (t : Fin cfg0.N) : Vec F S1x384x2816 .i8 :=
  out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t)
def outAt0_7 (c : Dev nD) (t : Fin cfg0.N) : Vec F S1x384x11 .f32 :=
  out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t)

/-- The proof data of this call on core `c`: the arrays as the call finds them; after the body at point `t` each input's
    buffer at its block and each output's at `outAt0_w`. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0_4 V c t
    | ⟨5, _⟩ => outAt0_5 V c t
    | ⟨6, _⟩ => outAt0_6 V c t
    | ⟨7, _⟩ => outAt0_7 V c t
  Φ _ := Pipeline.ΦA spec0 c
  q _ := fullShare
  owed _ := 0

theorem A_eq0 (c : Dev nD) (w : Fin cfg0.W) : (dat0 V c).A w = V c (Proc.devRef .tc (Pipeline.arrRef spec0 w)) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0_4 V c t := by dsimp only [dat0]
theorem after0_5 (c : Dev nD) (t : Fin cfg0.N) : (dat0 V c).after 5 t = outAt0_5 V c t := by dsimp only [dat0]
theorem after0_6 (c : Dev nD) (t : Fin cfg0.N) : (dat0 V c).after 6 t = outAt0_6 V c t := by dsimp only [dat0]
theorem after0_7 (c : Dev nD) (t : Fin cfg0.N) : (dat0 V c).after 7 t = outAt0_7 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body at a grid point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold outAt0_4 outAt0_5 outAt0_6 outAt0_7
  unfold out0_4 out0_5 out0_6 out0_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run0 c (grid0.coords t) _ _ _ _ _ _ _ _ _ _ _ _ _ _ _ _ (iblk0 V c 0 t) (iblk0 V c 1 t) (iblk0 V c 2 t) (iblk0 V c 3 t)).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_4 c _ _ _ _ _ _ _ _ _ _ _ _ _ _ _ _ _ _ _ _ _ )
  isplitl [H5]
  · unfold owns; iexists _; isplitr
    swap; · iexact H5
    ipureintro; exact View.read_writes_of_cover _ _ _ _ _ (cover0_5 c _ _ _ _ _ _ _ _ _ _ _ _ _ _ _ _ _ _ _ _ _ )
  isplitl [H6]
  · unfold owns; iexists _; isplitr
    swap; · iexact H6
    ipureintro; exact View.read_writes_of_cover _ _ _ _ _ (cover0_6 c _ _ _ _ _ _ _ _ _ _ _ _ _ _ _ _ _ _ _ _ _ )
  unfold owns; iexists _; isplitr
  swap; · iexact H7
  ipureintro; exact View.read_writes_of_cover _ _ _ _ _ (cover0_7 c _ _ _ _ _ _ _ _ _ _ _ _ _ _ _ _ _ _ _ _ _ )

theorem defs₀_row0 (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Soap

end
-- ==== Proof.Region1.lean ====
/-
The second call: one block of rows of `q_lᵀ · m`, `m` the new first moment.
What one grid point does, for any values the call finds in its arrays.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Soap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The blocks of the windows -/

/-- The block of window `w` at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-! An input's staging buffer holds its block at every point, fetched at that point or kept from an earlier one. -/

theorem before1_0_of {c : Dev nD} (dat : Dat τ (Elt F) Unit ℕ (UR sig nD τ) ℕ cfg1 c) (hA : dat.A 0 = V c (Proc.devRef .tc (Pipeline.arrRef spec1 0)))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Proc.devRef .tc (Pipeline.arrRef spec1 1)))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body on any staging memrefs -/

/-- One staging buffer of output 2, through which the contents are stated. -/
abbrev VO1_2 : View sig .tc .vmem S1x384x2816 .bf16 := (Memref.whole cc1_stg2_0 : Memref sig .tc .vmem S1x384x2816 .bf16).view
/-! Each window's staging memref at point `t`, and that it is whole. -/

abbrev ms1_0 (t : Fin cfg1.N) : Memref sig .tc .vmem S1x2688x384 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2688x2816 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x384x2816 .bf16 := win1_2.stage (cfg1.slots t 2)
abbrev hs1_2 (t : Fin cfg1.N) : (ms1_2 t).IsWhole := hstage1_2 ((cfg1.slots t 2).cast nbuf1_2)

section
variable (c : Dev nD) (i : grid1.Coords) (arg2 : Memref sig .tc .vmem S1x2688x384 .bf16) (harg2 : arg2.IsWhole) (arg3 : Memref sig .tc .vmem S1x2688x2816 .bf16) (harg3 : arg3.IsWhole) (arg4 : Memref sig .tc .vmem S1x384x2816 .bf16) (harg4 : arg4.IsWhole)
   (x0 : Vec F S1x2688x384 .bf16) (x1 : Vec F S1x2688x2816 .bf16)

set_option maxHeartbeats 1000000 in
/-- The pieces the body's stores leave in each output's staging buffer (last first), with the proof that on whole
    staging memrefs, the inputs' at their contents, the body runs and ends with the inputs as they were and each
    output's buffer with those pieces written. -/
noncomputable def run1 :
    { L2 : List (View.Piece (Elt F) S1x384x2816 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1_rot1m i arg2 harg2 arg3 harg3 arg4 harg4) K } := by
  refine ⟨?_, fun E K => ?run⟩
  case run =>
    simp only [cc1_rot1m_eq_skeleton]; unfold cc1_rot1m_skel
    simp only [k1_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! The stores into each output cover its block, so what was there before does not matter. -/

theorem cover1_2 (y : S1x384x2816.Idx) : ∃ pc ∈ (run1 c i arg2 harg2 arg3 harg3 arg4 harg4 x0 x1).1, y ∈ pc.1.set :=
  View.cover_of_tiledBy (run1 c i arg2 harg2 arg3 harg3 arg4 harg4 x0 x1).1 ![1, 384, 256] (by sl_kernel_rfl) y
/-- What the body leaves in output 2's staging buffer. -/
def out1_2 : Vec F S1x384x2816 .bf16 :=
  VO1_2.read (Elt F) (VO1_2.writes (Elt F) VO1_2.junk (run1 c i arg2 harg2 arg3 harg3 arg4 harg4 x0 x1).1)
end

/-! ## What the outputs hold after each point -/

def outAt1_2 (c : Dev nD) (t : Fin cfg1.N) : Vec F S1x384x2816 .bf16 :=
  out1_2 c (grid1.coords t) (ms1_0 t) (hs1_0 t) (ms1_1 t) (hs1_1 t) (ms1_2 t) (hs1_2 t) (iblk1 V c 0 t) (iblk1 V c 1 t)

/-- The proof data of this call on core `c`: the arrays as the call finds them; after the body at point `t` each input's
    buffer at its block and each output's at `outAt1_w`. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => outAt1_2 V c t
  Φ _ := Pipeline.ΦA spec1 c
  q _ := fullShare
  owed _ := 0

theorem A_eq1 (c : Dev nD) (w : Fin cfg1.W) : (dat1 V c).A w = V c (Proc.devRef .tc (Pipeline.arrRef spec1 w)) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1_2 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body at a grid point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outAt1_2
  unfold out1_2
  iintro ⟨HΦ, Ho, ⟨%d0, H0⟩, ⟨%d1, H1⟩, ⟨%d2, H2⟩⟩
  iapply ((run1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _ )

theorem defs₀_row1 (t : Fin cfg1.N) :
    defs₀ (F := F) .tc cfg1.body (cfg1.bodyArgs t (cfg1.slots t)) = bodyAt1 t := by
  unfold defs₀; rw [Defs.onTc_tc]

/-- The body meets the pipeline's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Soap

end
-- ==== Proof.Region2.lean ====
/-
The third call: one block of rows of the two rotated arrays times `q_r`, the new second moment, quantised and scaled, and the normalised
direction. What one grid point does, for any values the call finds in its arrays.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Soap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The blocks of the windows -/

/-- The block of window `w` at grid point `t`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-! An input's staging buffer holds its block at every point, fetched at that point or kept from an earlier one. -/

theorem before2_0_of {c : Dev nD} (dat : Dat τ (Elt F) Unit ℕ (UR sig nD τ) ℕ cfg2 c) (hA : dat.A 0 = V c (Proc.devRef .tc (Pipeline.arrRef spec2 0)))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Proc.devRef .tc (Pipeline.arrRef spec2 1)))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Proc.devRef .tc (Pipeline.arrRef spec2 2)))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Proc.devRef .tc (Pipeline.arrRef spec2 3)))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Proc.devRef .tc (Pipeline.arrRef spec2 4)))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body on any staging memrefs -/

/-- One staging buffer of output 5, through which the contents are stated. -/
abbrev VO2_5 : View sig .tc .vmem S1x384x2816 .bf16 := (Memref.whole cc2_stg5_0 : Memref sig .tc .vmem S1x384x2816 .bf16).view
/-- One staging buffer of output 6, through which the contents are stated. -/
abbrev VO2_6 : View sig .tc .vmem S1x384x2816 .i8 := (Memref.whole cc2_stg6_0 : Memref sig .tc .vmem S1x384x2816 .i8).view
/-- One staging buffer of output 7, through which the contents are stated. -/
abbrev VO2_7 : View sig .tc .vmem S1x384x11 .f32 := (Memref.whole cc2_stg7_0 : Memref sig .tc .vmem S1x384x11 .f32).view
/-! Each window's staging memref at point `t`, and that it is whole. -/

abbrev ms2_0 (t : Fin cfg2.N) : Memref sig .tc .vmem S1x384x2816 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x384x2816 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2816x2816 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x384x2816 .i8 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x384x11 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x384x2816 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x384x2816 .i8 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x384x11 .f32 := win2_7.stage (cfg2.slots t 7)
abbrev hs2_7 (t : Fin cfg2.N) : (ms2_7 t).IsWhole := hstage2_7 ((cfg2.slots t 7).cast nbuf2_7)

section
variable (c : Dev nD) (i : grid2.Coords) (arg2 : Memref sig .tc .vmem S1x384x2816 .bf16) (harg2 : arg2.IsWhole) (arg3 : Memref sig .tc .vmem S1x384x2816 .bf16) (harg3 : arg3.IsWhole) (arg4 : Memref sig .tc .vmem S1x2816x2816 .bf16) (harg4 : arg4.IsWhole) (arg5 : Memref sig .tc .vmem S1x384x2816 .i8) (harg5 : arg5.IsWhole) (arg6 : Memref sig .tc .vmem S1x384x11 .f32) (harg6 : arg6.IsWhole) (arg7 : Memref sig .tc .vmem S1x384x2816 .bf16) (harg7 : arg7.IsWhole) (arg8 : Memref sig .tc .vmem S1x384x2816 .i8) (harg8 : arg8.IsWhole) (arg9 : Memref sig .tc .vmem S1x384x11 .f32) (harg9 : arg9.IsWhole)
   (x0 : Vec F S1x384x2816 .bf16) (x1 : Vec F S1x384x2816 .bf16) (x2 : Vec F S1x2816x2816 .bf16) (x3 : Vec F S1x384x2816 .i8) (x4 : Vec F S1x384x11 .f32)

set_option maxHeartbeats 1000000 in
/-- The pieces the body's stores leave in each output's staging buffer (last first), with the proof that on whole
    staging memrefs, the inputs' at their contents, the body runs and ends with the inputs as they were and each
    output's buffer with those pieces written. -/
noncomputable def run2 :
    Σ' (L5 : List (View.Piece (Elt F) S1x384x2816 .bf16)), Σ' (L6 : List (View.Piece (Elt F) S1x384x2816 .i8)), { L7 : List (View.Piece (Elt F) S1x384x11 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc2_rot2 i arg2 harg2 arg3 harg3 arg4 harg4 arg5 harg5 arg6 harg6 arg7 harg7 arg8 harg8 arg9 harg9) K } := by
  refine ⟨?_, ?_, ?_, fun E K => ?run⟩
  case run =>
    simp only [cc2_rot2_eq_skeleton]; unfold cc2_rot2_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

/-! The stores into each output cover its block, so what was there before does not matter. -/

theorem cover2_5 (y : S1x384x2816.Idx) : ∃ pc ∈ (run2 c i arg2 harg2 arg3 harg3 arg4 harg4 arg5 harg5 arg6 harg6 arg7 harg7 arg8 harg8 arg9 harg9 x0 x1 x2 x3 x4).1, y ∈ pc.1.set :=
  View.cover_of_tiledL (run2 c i arg2 harg2 arg3 harg3 arg4 harg4 arg5 harg5 arg6 harg6 arg7 harg7 arg8 harg8 arg9 harg9 x0 x1 x2 x3 x4).1 S1x384x256.size (by sl_kernel_rfl) y
/-- What the body leaves in output 5's staging buffer. -/
def out2_5 : Vec F S1x384x2816 .bf16 :=
  VO2_5.read (Elt F) (VO2_5.writes (Elt F) VO2_5.junk (run2 c i arg2 harg2 arg3 harg3 arg4 harg4 arg5 harg5 arg6 harg6 arg7 harg7 arg8 harg8 arg9 harg9 x0 x1 x2 x3 x4).1)
theorem cover2_6 (y : S1x384x2816.Idx) : ∃ pc ∈ (run2 c i arg2 harg2 arg3 harg3 arg4 harg4 arg5 harg5 arg6 harg6 arg7 harg7 arg8 harg8 arg9 harg9 x0 x1 x2 x3 x4).2.1, y ∈ pc.1.set :=
  View.cover_of_tiledL (run2 c i arg2 harg2 arg3 harg3 arg4 harg4 arg5 harg5 arg6 harg6 arg7 harg7 arg8 harg8 arg9 harg9 x0 x1 x2 x3 x4).2.1 S1x384x256.size (by sl_kernel_rfl) y
/-- What the body leaves in output 6's staging buffer. -/
def out2_6 : Vec F S1x384x2816 .i8 :=
  VO2_6.read (Elt F) (VO2_6.writes (Elt F) VO2_6.junk (run2 c i arg2 harg2 arg3 harg3 arg4 harg4 arg5 harg5 arg6 harg6 arg7 harg7 arg8 harg8 arg9 harg9 x0 x1 x2 x3 x4).2.1)
theorem cover2_7 (y : S1x384x11.Idx) : ∃ pc ∈ (run2 c i arg2 harg2 arg3 harg3 arg4 harg4 arg5 harg5 arg6 harg6 arg7 harg7 arg8 harg8 arg9 harg9 x0 x1 x2 x3 x4).2.2.1, y ∈ pc.1.set :=
  View.cover_of_tiledL (run2 c i arg2 harg2 arg3 harg3 arg4 harg4 arg5 harg5 arg6 harg6 arg7 harg7 arg8 harg8 arg9 harg9 x0 x1 x2 x3 x4).2.2.1 S1x384x1.size (by sl_kernel_rfl) y
/-- What the body leaves in output 7's staging buffer. -/
def out2_7 : Vec F S1x384x11 .f32 :=
  VO2_7.read (Elt F) (VO2_7.writes (Elt F) VO2_7.junk (run2 c i arg2 harg2 arg3 harg3 arg4 harg4 arg5 harg5 arg6 harg6 arg7 harg7 arg8 harg8 arg9 harg9 x0 x1 x2 x3 x4).2.2.1)
end

/-! ## What the outputs hold after each point -/

def outAt2_5 (c : Dev nD) (t : Fin cfg2.N) : Vec F S1x384x2816 .bf16 :=
  out2_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t)
def outAt2_6 (c : Dev nD) (t : Fin cfg2.N) : Vec F S1x384x2816 .i8 :=
  out2_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t)
def outAt2_7 (c : Dev nD) (t : Fin cfg2.N) : Vec F S1x384x11 .f32 :=
  out2_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t)

/-- The proof data of this call on core `c`: the arrays as the call finds them; after the body at point `t` each input's
    buffer at its block and each output's at `outAt2_w`. -/
def dat2 (c : Dev nD) : Dat τ (Elt F) Unit ℕ (UR sig nD τ) ℕ cfg2 c where
  A w := V c (Proc.devRef .tc (Pipeline.arrRef spec2 w))
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outAt2_5 V c t
    | ⟨6, _⟩ => outAt2_6 V c t
    | ⟨7, _⟩ => outAt2_7 V c t
  Φ _ := Pipeline.ΦA spec2 c
  q _ := fullShare
  owed _ := 0

theorem A_eq2 (c : Dev nD) (w : Fin cfg2.W) : (dat2 V c).A w = V c (Proc.devRef .tc (Pipeline.arrRef spec2 w)) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outAt2_5 V c t := by dsimp only [dat2]
theorem after2_6 (c : Dev nD) (t : Fin cfg2.N) : (dat2 V c).after 6 t = outAt2_6 V c t := by dsimp only [dat2]
theorem after2_7 (c : Dev nD) (t : Fin cfg2.N) : (dat2 V c).after 7 t = outAt2_7 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body at a grid point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  unfold outAt2_5 outAt2_6 outAt2_7
  unfold out2_5 out2_6 out2_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run2 c (grid2.coords t) _ _ _ _ _ _ _ _ _ _ _ _ _ _ _ _ (iblk2 V c 0 t) (iblk2 V c 1 t) (iblk2 V c 2 t) (iblk2 V c 3 t) (iblk2 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover2_5 c _ _ _ _ _ _ _ _ _ _ _ _ _ _ _ _ _ _ _ _ _ _ )
  isplitl [H6]
  · unfold owns; iexists _; isplitr
    swap; · iexact H6
    ipureintro; exact View.read_writes_of_cover _ _ _ _ _ (cover2_6 c _ _ _ _ _ _ _ _ _ _ _ _ _ _ _ _ _ _ _ _ _ _ )
  unfold owns; iexists _; isplitr
  swap; · iexact H7
  ipureintro; exact View.read_writes_of_cover _ _ _ _ _ (cover2_7 c _ _ _ _ _ _ _ _ _ _ _ _ _ _ _ _ _ _ _ _ _ _ )

theorem defs₀_row2 (t : Fin cfg2.N) :
    defs₀ (F := F) .tc cfg2.body (cfg2.bodyArgs t (cfg2.slots t)) = bodyAt2 t := by
  unfold defs₀; rw [Defs.onTc_tc]

/-- The body meets the pipeline's obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Soap

end
-- ==== Proof.Region3.lean ====
/-
The fourth call: one block of rows of `q_l · n`, `n` the normalised direction.
What one grid point does, for any values the call finds in its arrays.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Soap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The blocks of the windows -/

/-- The block of window `w` at grid point `t`, read off the window's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-! An input's staging buffer holds its block at every point, fetched at that point or kept from an earlier one. -/

theorem before3_0_of {c : Dev nD} (dat : Dat τ (Elt F) Unit ℕ (UR sig nD τ) ℕ cfg3 c) (hA : dat.A 0 = V c (Proc.devRef .tc (Pipeline.arrRef spec3 0)))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Proc.devRef .tc (Pipeline.arrRef spec3 1)))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body on any staging memrefs -/

/-- One staging buffer of output 2, through which the contents are stated. -/
abbrev VO3_2 : View sig .tc .vmem S1x384x2816 .bf16 := (Memref.whole cc3_stg2_0 : Memref sig .tc .vmem S1x384x2816 .bf16).view
/-! Each window's staging memref at point `t`, and that it is whole. -/

abbrev ms3_0 (t : Fin cfg3.N) : Memref sig .tc .vmem S1x384x2688 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x2688x2816 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x384x2816 .bf16 := win3_2.stage (cfg3.slots t 2)
abbrev hs3_2 (t : Fin cfg3.N) : (ms3_2 t).IsWhole := hstage3_2 ((cfg3.slots t 2).cast nbuf3_2)

section
variable (c : Dev nD) (i : grid3.Coords) (arg2 : Memref sig .tc .vmem S1x384x2688 .bf16) (harg2 : arg2.IsWhole) (arg3 : Memref sig .tc .vmem S1x2688x2816 .bf16) (harg3 : arg3.IsWhole) (arg4 : Memref sig .tc .vmem S1x384x2816 .bf16) (harg4 : arg4.IsWhole)
   (x0 : Vec F S1x384x2688 .bf16) (x1 : Vec F S1x2688x2816 .bf16)

set_option maxHeartbeats 1000000 in
/-- The pieces the body's stores leave in each output's staging buffer (last first), with the proof that on whole
    staging memrefs, the inputs' at their contents, the body runs and ends with the inputs as they were and each
    output's buffer with those pieces written. -/
noncomputable def run3 :
    { L2 : List (View.Piece (Elt F) S1x384x2816 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc3_rot3 i arg2 harg2 arg3 harg3 arg4 harg4) K } := by
  refine ⟨?_, fun E K => ?run⟩
  case run =>
    simp only [cc3_rot3_eq_skeleton]; unfold cc3_rot3_skel
    simp only [k3_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! The stores into each output cover its block, so what was there before does not matter. -/

theorem cover3_2 (y : S1x384x2816.Idx) : ∃ pc ∈ (run3 c i arg2 harg2 arg3 harg3 arg4 harg4 x0 x1).1, y ∈ pc.1.set :=
  View.cover_of_tiledBy (run3 c i arg2 harg2 arg3 harg3 arg4 harg4 x0 x1).1 ![1, 384, 256] (by sl_kernel_rfl) y
/-- What the body leaves in output 2's staging buffer. -/
def out3_2 : Vec F S1x384x2816 .bf16 :=
  VO3_2.read (Elt F) (VO3_2.writes (Elt F) VO3_2.junk (run3 c i arg2 harg2 arg3 harg3 arg4 harg4 x0 x1).1)
end

/-! ## What the outputs hold after each point -/

def outAt3_2 (c : Dev nD) (t : Fin cfg3.N) : Vec F S1x384x2816 .bf16 :=
  out3_2 c (grid3.coords t) (ms3_0 t) (hs3_0 t) (ms3_1 t) (hs3_1 t) (ms3_2 t) (hs3_2 t) (iblk3 V c 0 t) (iblk3 V c 1 t)

/-- The proof data of this call on core `c`: the arrays as the call finds them; after the body at point `t` each input's
    buffer at its block and each output's at `outAt3_w`. -/
def dat3 (c : Dev nD) : Dat τ (Elt F) Unit ℕ (UR sig nD τ) ℕ cfg3 c where
  A w := V c (Proc.devRef .tc (Pipeline.arrRef spec3 w))
  after w t := match w with
    | ⟨0, _⟩ => iblk3 V c 0 t
    | ⟨1, _⟩ => iblk3 V c 1 t
    | ⟨2, _⟩ => outAt3_2 V c t
  Φ _ := Pipeline.ΦA spec3 c
  q _ := fullShare
  owed _ := 0

theorem A_eq3 (c : Dev nD) (w : Fin cfg3.W) : (dat3 V c).A w = V c (Proc.devRef .tc (Pipeline.arrRef spec3 w)) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = outAt3_2 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body at a grid point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

set_option maxHeartbeats 800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  unfold outAt3_2
  unfold out3_2
  iintro ⟨HΦ, Ho, ⟨%d0, H0⟩, ⟨%d1, H1⟩, ⟨%d2, H2⟩⟩
  iapply ((run3 c (grid3.coords t) _ _ _ _ _ _ (iblk3 V c 0 t) (iblk3 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover3_2 c _ _ _ _ _ _ _ _ _ )

theorem defs₀_row3 (t : Fin cfg3.N) :
    defs₀ (F := F) .tc cfg3.body (cfg3.bodyArgs t (cfg3.slots t)) = bodyAt3 t := by
  unfold defs₀; rw [Defs.onTc_tc]

/-- The body meets the pipeline's obligation at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Soap

end
-- ==== Proof.Region4.lean ====
/-
The fifth call: one block of rows of the step `-step · (t · q_rᵀ)` and of the new weights.
What one grid point does, for any values the call finds in its arrays.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Soap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The blocks of the windows -/

/-- The block of window `w` at grid point `t`, read off the window's array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Proc.devRef .tc (Pipeline.arrRef spec4 w)))

/-! An input's staging buffer holds its block at every point, fetched at that point or kept from an earlier one. -/

theorem before4_0_of {c : Dev nD} (dat : Dat τ (Elt F) Unit ℕ (UR sig nD τ) ℕ cfg4 c) (hA : dat.A 0 = V c (Proc.devRef .tc (Pipeline.arrRef spec4 0)))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Proc.devRef .tc (Pipeline.arrRef spec4 1)))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Proc.devRef .tc (Pipeline.arrRef spec4 2)))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Proc.devRef .tc (Pipeline.arrRef spec4 3)))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body on any staging memrefs -/

/-- One staging buffer of output 4, through which the contents are stated. -/
abbrev VO4_4 : View sig .tc .vmem S1x192x2816 .f32 := (Memref.whole cc4_stg4_0 : Memref sig .tc .vmem S1x192x2816 .f32).view
/-- One staging buffer of output 5, through which the contents are stated. -/
abbrev VO4_5 : View sig .tc .vmem S1x192x2816 .f32 := (Memref.whole cc4_stg5_0 : Memref sig .tc .vmem S1x192x2816 .f32).view
/-! Each window's staging memref at point `t`, and that it is whole. -/

abbrev ms4_0 (t : Fin cfg4.N) : Memref sig .tc .smem S3 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x192x2816 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x2816x2816 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x192x2816 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x192x2816 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x192x2816 .f32 := win4_5.stage (cfg4.slots t 5)
abbrev hs4_5 (t : Fin cfg4.N) : (ms4_5 t).IsWhole := hstage4_5 ((cfg4.slots t 5).cast nbuf4_5)

section
variable (c : Dev nD) (i : grid4.Coords) (arg2 : Memref sig .tc .smem S3 .f32) (harg2 : arg2.IsWhole) (arg3 : Memref sig .tc .vmem S1x192x2816 .bf16) (harg3 : arg3.IsWhole) (arg4 : Memref sig .tc .vmem S1x2816x2816 .bf16) (harg4 : arg4.IsWhole) (arg5 : Memref sig .tc .vmem S1x192x2816 .f32) (harg5 : arg5.IsWhole) (arg6 : Memref sig .tc .vmem S1x192x2816 .f32) (harg6 : arg6.IsWhole) (arg7 : Memref sig .tc .vmem S1x192x2816 .f32) (harg7 : arg7.IsWhole)
   (x0 : Vec F S3 .f32) (x1 : Vec F S1x192x2816 .bf16) (x2 : Vec F S1x2816x2816 .bf16) (x3 : Vec F S1x192x2816 .f32)

set_option maxHeartbeats 1000000 in
/-- The pieces the body's stores leave in each output's staging buffer (last first), with the proof that on whole
    staging memrefs, the inputs' at their contents, the body runs and ends with the inputs as they were and each
    output's buffer with those pieces written. -/
noncomputable def run4 :
    Σ' (L4 : List (View.Piece (Elt F) S1x192x2816 .f32)), { L5 : List (View.Piece (Elt F) S1x192x2816 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc4_rot4 i arg2 harg2 arg3 harg3 arg4 harg4 arg5 harg5 arg6 harg6 arg7 harg7) K } := by
  refine ⟨?_, ?_, fun E K => ?run⟩
  case run =>
    simp only [cc4_rot4_eq_skeleton]; unfold cc4_rot4_skel
    simp only [k4_part1_eq_skeleton, k4_part2_eq_skeleton, k4_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-! The stores into each output cover its block, so what was there before does not matter. -/

theorem cover4_4 (y : S1x192x2816.Idx) : ∃ pc ∈ (run4 c i arg2 harg2 arg3 harg3 arg4 harg4 arg5 harg5 arg6 harg6 arg7 harg7 x0 x1 x2 x3).1, y ∈ pc.1.set :=
  View.cover_of_tiledBy (run4 c i arg2 harg2 arg3 harg3 arg4 harg4 arg5 harg5 arg6 harg6 arg7 harg7 x0 x1 x2 x3).1 ![1, 192, 256] (by sl_kernel_rfl) y
/-- What the body leaves in output 4's staging buffer. -/
def out4_4 : Vec F S1x192x2816 .f32 :=
  VO4_4.read (Elt F) (VO4_4.writes (Elt F) VO4_4.junk (run4 c i arg2 harg2 arg3 harg3 arg4 harg4 arg5 harg5 arg6 harg6 arg7 harg7 x0 x1 x2 x3).1)
theorem cover4_5 (y : S1x192x2816.Idx) : ∃ pc ∈ (run4 c i arg2 harg2 arg3 harg3 arg4 harg4 arg5 harg5 arg6 harg6 arg7 harg7 x0 x1 x2 x3).2.1, y ∈ pc.1.set :=
  View.cover_of_tiledBy (run4 c i arg2 harg2 arg3 harg3 arg4 harg4 arg5 harg5 arg6 harg6 arg7 harg7 x0 x1 x2 x3).2.1 ![1, 192, 256] (by sl_kernel_rfl) y
/-- What the body leaves in output 5's staging buffer. -/
def out4_5 : Vec F S1x192x2816 .f32 :=
  VO4_5.read (Elt F) (VO4_5.writes (Elt F) VO4_5.junk (run4 c i arg2 harg2 arg3 harg3 arg4 harg4 arg5 harg5 arg6 harg6 arg7 harg7 x0 x1 x2 x3).2.1)
end

/-! ## What the outputs hold after each point -/

def outAt4_4 (c : Dev nD) (t : Fin cfg4.N) : Vec F S1x192x2816 .f32 :=
  out4_4 c (grid4.coords t) (ms4_0 t) (hs4_0 t) (ms4_1 t) (hs4_1 t) (ms4_2 t) (hs4_2 t) (ms4_3 t) (hs4_3 t) (ms4_4 t) (hs4_4 t) (ms4_5 t) (hs4_5 t) (iblk4 V c 0 t) (iblk4 V c 1 t) (iblk4 V c 2 t) (iblk4 V c 3 t)
def outAt4_5 (c : Dev nD) (t : Fin cfg4.N) : Vec F S1x192x2816 .f32 :=
  out4_5 c (grid4.coords t) (ms4_0 t) (hs4_0 t) (ms4_1 t) (hs4_1 t) (ms4_2 t) (hs4_2 t) (ms4_3 t) (hs4_3 t) (ms4_4 t) (hs4_4 t) (ms4_5 t) (hs4_5 t) (iblk4 V c 0 t) (iblk4 V c 1 t) (iblk4 V c 2 t) (iblk4 V c 3 t)

/-- The proof data of this call on core `c`: the arrays as the call finds them; after the body at point `t` each input's
    buffer at its block and each output's at `outAt4_w`. -/
def dat4 (c : Dev nD) : Dat τ (Elt F) Unit ℕ (UR sig nD τ) ℕ cfg4 c where
  A w := V c (Proc.devRef .tc (Pipeline.arrRef spec4 w))
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAt4_4 V c t
    | ⟨5, _⟩ => outAt4_5 V c t
  Φ _ := Pipeline.ΦA spec4 c
  q _ := fullShare
  owed _ := 0

theorem A_eq4 (c : Dev nD) (w : Fin cfg4.W) : (dat4 V c).A w = V c (Proc.devRef .tc (Pipeline.arrRef spec4 w)) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = outAt4_4 V c t := by dsimp only [dat4]
theorem after4_5 (c : Dev nD) (t : Fin cfg4.N) : (dat4 V c).after 5 t = outAt4_5 V c t := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body at a grid point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t))

set_option maxHeartbeats 800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  unfold outAt4_4 outAt4_5
  unfold out4_4 out4_5
  iintro ⟨HΦ, Ho, ⟨%d0, H0⟩, ⟨%d1, H1⟩, ⟨%d2, H2⟩, ⟨%d3, H3⟩, ⟨%d4, H4⟩, ⟨%d5, H5⟩⟩
  iapply ((run4 c (grid4.coords t) _ _ _ _ _ _ _ _ _ _ _ _ (iblk4 V c 0 t) (iblk4 V c 1 t) (iblk4 V c 2 t) (iblk4 V c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4_4 c _ _ _ _ _ _ _ _ _ _ _ _ _ _ _ _ _ )
  unfold owns; iexists _; isplitr
  swap; · iexact H5
  ipureintro; exact View.read_writes_of_cover _ _ _ _ _ (cover4_5 c _ _ _ _ _ _ _ _ _ _ _ _ _ _ _ _ _ )

theorem defs₀_row4 (t : Fin cfg4.N) :
    defs₀ (F := F) .tc cfg4.body (cfg4.bodyArgs t (cfg4.slots t)) = bodyAt4 t := by
  unfold defs₀; rw [Defs.onTc_tc]

/-- The body meets the pipeline's obligation at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.Soap

end
-- ==== Proof.GgtProgram.lean ====
/-
The sixth call, program: one grid point of `grad · gradᵀ` is, for the row block `k` it is at, a walk over the column
tiles `j`. `ggtStep k j` is one step of that walk, for all three cases: left of the diagonal (the product was left
transposed in the scratch by an earlier row block), on it, and right of it (the product is computed and kept transposed).
The seven guarded stretches of the printed body are these walks.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.WritesUnit
public import Idealize.ShloMosaic.Lib.Tactic
public import Idealize.ShloMosaic.Lib.WordCmp
public import Idealize.ShloMosaic.Lib.Claim

@[expose] public section

set_option maxRecDepth 16384

noncomputable section

namespace Cert.KernelIdeal.Soap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The product of two row blocks. -/
def ggtDot (gi gj : Vec F S1x384x2816 .bf16) : FVec F S384x384 .f32 :=
  matmul dot_S384x2816_S384x2816_S384x384_1_1_0_0_n_n none (shapeCast S384x2816 gi shapeCasts_S1x384x2816_S384x2816)
    (shapeCast S384x2816 gj shapeCasts_S1x384x2816_S384x2816) (constant S384x384 .f32 0x00000000#32)

/-- What the scratch keeps of it: its transpose. -/
def ggtKeep (gi gj : Vec F S1x384x2816 .bf16) : FVec F S1x384x384 .f32 :=
  shapeCast S1x384x384 (transpose S384x384 [1, 0] (ggtDot gi gj) transposes_S384x384_p1_0_S384x384) shapeCasts_S384x384_S1x384x384

/-- The moving average of a tile. -/
def ggtMix (x : FVec F S384x384 .f32) (l : Vec F S1x384x384 .f32) : FVec F S1x384x384 .f32 :=
  shapeCast S1x384x384 (addf
    (mulf (broadcast S384x384 (Scalar.ofBits .f32 0x3F733333#32)) (shapeCast S384x384 l shapeCasts_S1x384x384_S384x384))
    (mulf (broadcast S384x384 (Scalar.ofBits .f32 0x3D4CCCD0#32)) x)) shapeCasts_S384x384_S1x384x384

/-- The slot of the scratch that keeps the product of row blocks `j < k`. -/
def ggtSlot (j k : ℕ) : ℕ := j * 7 - j * (j + 1) / 2 + k - j - 1

theorem ggtSlot_lt (j k : ℕ) (h : j < k) (hk : k < 7) : ggtSlot j k < 21 := by
  have e : ∀ k < 7, ∀ j < k, j * 7 - j * (j + 1) / 2 + k - j - 1 < 21 := by decide
  exact e k hk j h

theorem inbGgtRows (k : ℕ) (hk : k < 7) : ∀ a, (![0, 384 * k, 0] : Fin 3 → ℕ) a + S1x384x2816.size a ≤ S1x2688x2816.size a := by
  intro a; fin_cases a
  · show 0 + 1 ≤ 1; omega
  · show 384 * k + 384 ≤ 2688; omega
  · show 0 + 2816 ≤ 2816; omega
theorem inbGgtTile (j : ℕ) (hj : j < 7) : ∀ a, (![0, 0, 384 * j] : Fin 3 → ℕ) a + S1x384x384.size a ≤ S1x384x2688.size a := by
  intro a; fin_cases a
  · show 0 + 1 ≤ 1; omega
  · show 0 + 384 ≤ 384; omega
  · show 384 * j + 384 ≤ 2688; omega
theorem inbGgtSlot (s : ℕ) (hs : s < 21) : ∀ a, (![s, 0, 0] : Fin 3 → ℕ) a + S1x384x384.size a ≤ S21x384x384.size a := by
  intro a; fin_cases a
  · show s + 1 ≤ 21; omega
  · show 0 + 384 ≤ 384; omega
  · show 0 + 384 ≤ 384; omega

abbrev ggtRows (k : ℕ) (hk : k < 7) : Rect S1x2688x2816 := Rect.unit (s := S1x2688x2816) ![0, 384 * k, 0] S1x384x2816.size (inbGgtRows k hk)
abbrev ggtTile (j : ℕ) (hj : j < 7) : Rect S1x384x2688 := Rect.unit (s := S1x384x2688) ![0, 0, 384 * j] S1x384x384.size (inbGgtTile j hj)
abbrev ggtCell (s : ℕ) (hs : s < 21) : Rect S21x384x384 := Rect.unit (s := S21x384x384) ![s, 0, 0] S1x384x384.size (inbGgtSlot s hs)

section
variable (arg2 : Memref sig .tc .vmem S1x2688x2816 .bf16) (arg3 : Memref sig .tc .vmem S1x384x2688 .f32)
  (arg4 : Memref sig .tc .vmem S1x384x2688 .f32) (arg5 : Memref sig .tc .vmem S21x384x384 .f32)

/-- One column tile of row block `k`. -/
def ggtStep (k j : ℕ) (hk : k < 7) (hj : j < 7) (gi : Vec F S1x384x2816 .bf16) : Prog (TpuEff nD τ sig (Elt F) Λ₀ .tc) PUnit :=
  if hjk : j < k then do
    let x : Vec F S1x384x384 .f32 ← Prog.lift (.load arg5 (ggtCell (ggtSlot j k) (ggtSlot_lt j k hjk hk)).toLoadRect (View.loadsAt_vmem h_S1x384x384))
    let l : Vec F S1x384x384 .f32 ← Prog.lift (.load arg3 (ggtTile j hj).toLoadRect (View.loadsAt_vmem h_S1x384x384))
    let _ : Vec F S1x384x384 .f32 ← Prog.lift (.load arg4 (ggtTile j hj).toLoadRect (View.loadsAt_vmem h_S1x384x384))
    Prog.lift (.store arg4 (ggtTile j hj) (ggtMix (shapeCast S384x384 x shapeCasts_S1x384x384_S384x384) l) Finset.univ (View.stores_vmem_bits_univ h_S1x384x384 rfl) (.inl rfl))
  else do
    let gj : Vec F S1x384x2816 .bf16 ← Prog.lift (.load arg2 (ggtRows j hj).toLoadRect (View.loadsAt_vmem h_S1x384x2816))
    if hkj : k < j then do
      let _ : Vec F S1x384x384 .f32 ← Prog.lift (.load arg5 (ggtCell (ggtSlot k j) (ggtSlot_lt k j hkj hj)).toLoadRect (View.loadsAt_vmem h_S1x384x384))
      Prog.lift (.store arg5 (ggtCell (ggtSlot k j) (ggtSlot_lt k j hkj hj)) (ggtKeep gi gj) Finset.univ (View.stores_vmem_bits_univ h_S1x384x384 rfl) (.inl rfl))
    else pure ⟨⟩
    let l : Vec F S1x384x384 .f32 ← Prog.lift (.load arg3 (ggtTile j hj).toLoadRect (View.loadsAt_vmem h_S1x384x384))
    let _ : Vec F S1x384x384 .f32 ← Prog.lift (.load arg4 (ggtTile j hj).toLoadRect (View.loadsAt_vmem h_S1x384x384))
    Prog.lift (.store arg4 (ggtTile j hj) (ggtMix (ggtDot gi gj) l) Finset.univ (View.stores_vmem_bits_univ h_S1x384x384 rfl) (.inl rfl))

/-- The first `n` column tiles of row block `k`. -/
def ggtSteps (k : ℕ) (hk : k < 7) (gi : Vec F S1x384x2816 .bf16) : (n : ℕ) → n ≤ 7 → Prog (TpuEff nD τ sig (Elt F) Λ₀ .tc) PUnit
  | 0, _ => pure ⟨⟩
  | n + 1, h => do ggtSteps k hk gi n (Nat.le_of_succ_le h); ggtStep arg2 arg3 arg4 arg5 k n hk h gi

/-- Row block `k`. -/
def ggtBranch (k : ℕ) (hk : k < 7) : Prog (TpuEff nD τ sig (Elt F) Λ₀ .tc) PUnit := do
  let gi : Vec F S1x384x2816 .bf16 ← Prog.lift (.load arg2 (ggtRows k hk).toLoadRect (View.loadsAt_vmem h_S1x384x2816))
  ggtSteps arg2 arg3 arg4 arg5 k hk gi 7 (Nat.le_refl 7)
end

set_option maxHeartbeats 4000000 in
/-- The printed body is the row block's walk, guarded. -/
theorem cc5_ggt_eq (i : grid5.Coords) (arg2 : Memref sig .tc .vmem S1x2688x2816 .bf16) (harg2 : arg2.IsWhole) (arg3 : Memref sig .tc .vmem S1x384x2688 .f32) (harg3 : arg3.IsWhole) (arg4 : Memref sig .tc .vmem S1x384x2688 .f32) (harg4 : arg4.IsWhole) (arg5 : Memref sig .tc .vmem S21x384x384 .f32) (harg5 : arg5.IsWhole) :
    cc5_ggt (F := F) i arg2 harg2 arg3 harg3 arg4 harg4 arg5 harg5 = (do
      if k5_cond1 i = 1#1 then ggtBranch arg2 arg3 arg4 arg5 0 (by decide) else pure ⟨⟩
      if k5_cond2 i = 1#1 then ggtBranch arg2 arg3 arg4 arg5 1 (by decide) else pure ⟨⟩
      if k5_cond3 i = 1#1 then ggtBranch arg2 arg3 arg4 arg5 2 (by decide) else pure ⟨⟩
      if k5_cond4 i = 1#1 then ggtBranch arg2 arg3 arg4 arg5 3 (by decide) else pure ⟨⟩
      if k5_cond5 i = 1#1 then ggtBranch arg2 arg3 arg4 arg5 4 (by decide) else pure ⟨⟩
      if k5_cond6 i = 1#1 then ggtBranch arg2 arg3 arg4 arg5 5 (by decide) else pure ⟨⟩
      if k5_cond7 i = 1#1 then ggtBranch arg2 arg3 arg4 arg5 6 (by decide) else pure ⟨⟩) := by
  rw [cc5_ggt_eq_skeleton]
  rfl

end Cert.KernelIdeal.Soap

end
-- ==== Proof.GgtStep.lean ====
/-
The sixth call, one step: what a walk over the column tiles of row block `k` has written after `n` tiles, in the output
block (`GgtOut`) and in the scratch (`GgtScr`), and that one step takes `n` to `n + 1`.
-/
module

public import proofs.«01_k».proof.Proof.GgtProgram
public import Idealize.ShloMosaic.Lib.VecWindow
public import Idealize.ShloMosaic.Lib.WholeRead
public import Idealize.ShloMosaic.Lib.Pipeline.FrameBody
public import Idealize.ShloMosaic.Lib.Ring
public import Idealize.ShloMosaic.Lib.WritesUnit
public import Idealize.ShloMosaic.Lib.Tactic
public import Idealize.ShloMosaic.Lib.WordCmp
public import Idealize.ShloMosaic.Lib.Claim

@[expose] public section

set_option maxRecDepth 16384

noncomputable section

namespace Cert.KernelIdeal.Soap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow

/-- Row block `k` of the matrix. -/
abbrev ggtRow (x0 : Vec F S1x2688x2816 .bf16) (k : ℕ) (hk : k < 7) : Vec F S1x384x2816 .bf16 :=
  window x0 ![0, 384 * k, 0] S1x384x2816.size (inbGgtRows k hk)
/-- Column tile `j` of a block of rows. -/
abbrev ggtCol (x1 : Vec F S1x384x2688 .f32) (j : ℕ) (hj : j < 7) : Vec F S1x384x384 .f32 :=
  window x1 ![0, 0, 384 * j] S1x384x384.size (inbGgtTile j hj)
/-- Slot `s` of the scratch. -/
abbrev ggtAt (x : Vec F S21x384x384 .f32) (s : ℕ) (hs : s < 21) : Vec F S1x384x384 .f32 :=
  window x ![s, 0, 0] S1x384x384.size (inbGgtSlot s hs)

/-- Tile `j` of row block `k` of the result. -/
def ggtVal (x0 : Vec F S1x2688x2816 .bf16) (x1 : Vec F S1x384x2688 .f32) (k j : ℕ) (hk : k < 7) (hj : j < 7) : FVec F S1x384x384 .f32 :=
  ggtMix (if j < k then shapeCast S384x384 (ggtKeep (ggtRow x0 j hj) (ggtRow x0 k hk)) shapeCasts_S1x384x384_S384x384
    else ggtDot (ggtRow x0 k hk) (ggtRow x0 j hj)) (ggtCol x1 j hj)

/-- The first `n` tiles of the output block are written. -/
def GgtOut (x0 : Vec F S1x2688x2816 .bf16) (x1 : Vec F S1x384x2688 .f32) (k n : ℕ) (hk : k < 7) (o : Vec F S1x384x2688 .f32) : Prop :=
  ∀ j (hj : j < 7), j < n → ggtCol o j hj = ggtVal x0 x1 k j hk hj

/-- The scratch keeps the products of all earlier row blocks, and of this one with the row blocks below `n`. -/
def GgtScr (x0 : Vec F S1x2688x2816 .bf16) (k n : ℕ) (s : Vec F S21x384x384 .f32) : Prop :=
  ∀ a b (hb : b < 7) (hab : a < b), (a < k ∨ a = k ∧ b < n) →
    ggtAt s (ggtSlot a b) (ggtSlot_lt a b hab hb) = ggtKeep (ggtRow x0 a (hab.trans hb)) (ggtRow x0 b hb)

theorem ggtSlot_inj {a b c d : ℕ} (hab : a < b) (hb : b < 7) (hcd : c < d) (hd : d < 7) (h : ggtSlot a b = ggtSlot c d) : a = c ∧ b = d := by
  have e : ∀ b a d c : Fin 7, a < b → c < d → ggtSlot a b = ggtSlot c d → a = c ∧ b = d := by decide +kernel
  have r := e ⟨b, hb⟩ ⟨a, hab.trans hb⟩ ⟨d, hd⟩ ⟨c, hcd.trans hd⟩ hab hcd h
  exact ⟨congrArg Fin.val r.1, congrArg Fin.val r.2⟩

theorem GgtOut.step {x0 : Vec F S1x2688x2816 .bf16} {x1 : Vec F S1x384x2688 .f32} {k n : ℕ} {hk : k < 7} (hn : n < 7) {o : Vec F S1x384x2688 .f32}
    (h : GgtOut x0 x1 k n hk o) : GgtOut x0 x1 k (n + 1) hk (put o ![0, 0, 384 * n] S1x384x384.size (ggtVal x0 x1 k n hk hn)) := by
  intro j hj hjn
  rcases Nat.lt_succ_iff_lt_or_eq.mp hjn with hlt | rfl
  · refine (window_put_of_disjoint o ![0, 0, 384 * n] S1x384x384.size ![0, 0, 384 * j] S1x384x384.size (inbGgtTile j hj) _ 2 (Or.inl ?_)).trans (h j hj hlt)
    show 384 * j + 384 ≤ 384 * n; omega
  · exact window_put_same o _ _ _ _

theorem GgtScr.keep {x0 : Vec F S1x2688x2816 .bf16} {k n : ℕ} {s : Vec F S21x384x384 .f32} (hnk : n ≤ k)
    (h : GgtScr x0 k n s) : GgtScr x0 k (n + 1) s := by
  intro a b hb hab hc
  exact h a b hb hab (by omega)

theorem GgtScr.step {x0 : Vec F S1x2688x2816 .bf16} {k n : ℕ} (hn : n < 7) (hkn : k < n) {s : Vec F S21x384x384 .f32}
    (h : GgtScr x0 k n s) : GgtScr x0 k (n + 1) (put s ![ggtSlot k n, 0, 0] S1x384x384.size (ggtKeep (ggtRow x0 k (hkn.trans hn)) (ggtRow x0 n hn))) := by
  intro a b hb hab hc
  by_cases he : a = k ∧ b = n
  · obtain ⟨rfl, rfl⟩ := he
    exact window_put_same s _ _ _ _
  · refine (window_put_of_disjoint s ![ggtSlot k n, 0, 0] S1x384x384.size ![ggtSlot a b, 0, 0] S1x384x384.size (inbGgtSlot _ (ggtSlot_lt a b hab hb)) _ 0 ?_).trans (h a b hb hab (by omega))
    have hne : ggtSlot a b ≠ ggtSlot k n := fun e => he (ggtSlot_inj hab hb hkn hn e)
    show ggtSlot a b + 1 ≤ ggtSlot k n ∨ ggtSlot k n + 1 ≤ ggtSlot a b
    omega

section
variable (c : Dev nD) (arg2 : Memref sig .tc .vmem S1x2688x2816 .bf16) (harg2 : arg2.IsWhole) (arg3 : Memref sig .tc .vmem S1x384x2688 .f32) (harg3 : arg3.IsWhole)
  (arg4 : Memref sig .tc .vmem S1x384x2688 .f32) (harg4 : arg4.IsWhole) (arg5 : Memref sig .tc .vmem S21x384x384 .f32) (harg5 : arg5.IsWhole)
  (x0 : Vec F S1x2688x2816 .bf16) (x1 : Vec F S1x384x2688 .f32)

/-- What the core holds after `n` tiles of row block `k`. -/
def ggtHeld (k n : ℕ) (hk : k < 7) : sProp 𝕄 :=
  iprop(owns (c : Thread nD τ) arg2 fullShare x0 ∗ owns (c : Thread nD τ) arg3 fullShare x1
    ∗ (∃ o, ⌜GgtOut x0 x1 k n hk o⌝ ∗ owns (c : Thread nD τ) arg4 fullShare o)
    ∗ (∃ s, ⌜GgtScr x0 k n s⌝ ∗ owns (c : Thread nD τ) arg5 fullShare s))

include harg2 harg3 harg4 harg5 in
set_option maxHeartbeats 2000000 in
theorem ggtStep_wp (k n : ℕ) (hk : k < 7) (hn : n < 7) (E : Set ℕ) (K : PUnit → sProp 𝕄) :
    iprop(ggtHeld c arg2 arg3 arg4 arg5 x0 x1 k n hk ∗ (ggtHeld c arg2 arg3 arg4 arg5 x0 x1 k (n + 1) hk -∗ K ⟨⟩))
      ⊢ wp frame (wpE (defs₀ (F := F)) Variants.none c none) E (ggtStep arg2 arg3 arg4 arg5 k n hk hn (ggtRow x0 k hk)) K := by
  unfold ggtHeld owns
  iintro ⟨⟨⟨%f0, %hf0, H0⟩, ⟨%f1, %hf1, H1⟩, ⟨%o, %ho, %f2, %hf2, H2⟩, ⟨%s, %hs, %f3, %hf3, H3⟩⟩, Hk⟩
  obtain rfl := harg2.eq_unread hf0; obtain rfl := harg3.eq_unread hf1; obtain rfl := harg4.eq_unread hf2; obtain rfl := harg5.eq_unread hf3
  by_cases hnk : n < k
  · have e5 : View.readAt (Elt F) arg5.view (ggtCell (ggtSlot n k) (ggtSlot_lt n k hnk hk)).toLoadRect (harg5.unread s)
        = ggtAt s (ggtSlot n k) (ggtSlot_lt n k hnk hk) := funext fun y => harg5.readAt_unread _ _ y
    have ex := e5.trans (hs n k hk hnk (.inl hnk))
    have el : View.readAt (Elt F) arg3.view (ggtTile n hn).toLoadRect (harg3.unread x1) = ggtCol x1 n hn :=
      funext fun y => harg3.readAt_unread _ _ y
    clear e5
    unfold ggtStep; rw [dif_pos hnk]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap
      · iexists _; isplitr; swap; · iexact H2
        ipureintro; rfl
      · ipureintro
        rw [View.read_writes_cons_put _ _ _ _ _ rfl, View.writes_nil, harg4.read_unread]
        try rw [ex]
        try rw [el]
        have hv : ggtVal x0 x1 k n hk hn = ggtMix (shapeCast S384x384 (ggtKeep (ggtRow x0 n hn) (ggtRow x0 k hk)) shapeCasts_S1x384x384_S384x384) (ggtCol x1 n hn) := by
          unfold ggtVal; rw [if_pos hnk]
        rw [← hv]
        exact ho.step hn
    iexists _; isplitr; swap
    · iexists _; isplitr; swap; · iexact H3
      ipureintro; exact harg5.read_unread _
    · ipureintro; exact hs.keep hnk.le
  · have er : View.readAt (Elt F) arg2.view (ggtRows n hn).toLoadRect (harg2.unread x0) = ggtRow x0 n hn :=
      funext fun y => harg2.readAt_unread _ _ y
    have el : View.readAt (Elt F) arg3.view (ggtTile n hn).toLoadRect (harg3.unread x1) = ggtCol x1 n hn :=
      funext fun y => harg3.readAt_unread _ _ y
    have hv : ggtVal x0 x1 k n hk hn = ggtMix (ggtDot (ggtRow x0 k hk) (ggtRow x0 n hn)) (ggtCol x1 n hn) := by
      unfold ggtVal; rw [if_neg hnk]
    by_cases hkn : k < n
    · unfold ggtStep; rw [dif_neg hnk]; simp only [dif_pos hkn]
      sl_exec
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; swap
        · iexists _; isplitr; swap; · iexact H2
          ipureintro; rfl
        · ipureintro
          rw [View.read_writes_cons_put _ _ _ _ _ rfl, View.writes_nil, harg4.read_unread]
          try rw [er]
          try rw [el]
          rw [← hv]
          exact ho.step hn
      iexists _; isplitr; swap
      · iexists _; isplitr; swap; · iexact H3
        ipureintro; rfl
      · ipureintro
        rw [View.read_writes_cons_put _ _ _ _ _ rfl, View.writes_nil, harg5.read_unread]
        try rw [er]
        exact hs.step hn hkn
    · unfold ggtStep; rw [dif_neg hnk]; simp only [dif_neg hkn]
      sl_exec
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; swap
        · iexists _; isplitr; swap; · iexact H2
          ipureintro; rfl
        · ipureintro
          rw [View.read_writes_cons_put _ _ _ _ _ rfl, View.writes_nil, harg4.read_unread]
          try rw [er]
          try rw [el]
          rw [← hv]
          exact ho.step hn
      iexists _; isplitr; swap
      · iexists _; isplitr; swap; · iexact H3
        ipureintro; exact harg5.read_unread _
      · ipureintro; exact hs.keep (by omega)

include harg2 harg3 harg4 harg5 in
/-- A walk over the first `n` tiles. -/
theorem ggtSteps_wp (k : ℕ) (hk : k < 7) (E : Set ℕ) : ∀ (n : ℕ) (hn : n ≤ 7) (K : PUnit → sProp 𝕄),
    iprop(ggtHeld c arg2 arg3 arg4 arg5 x0 x1 k 0 hk ∗ (ggtHeld c arg2 arg3 arg4 arg5 x0 x1 k n hk -∗ K ⟨⟩))
      ⊢ wp frame (wpE (defs₀ (F := F)) Variants.none c none) E (ggtSteps arg2 arg3 arg4 arg5 k hk (ggtRow x0 k hk) n hn) K
  | 0, hn, K => by
    unfold ggtSteps
    iintro ⟨H, Hk⟩
    sl_step
    iapply Hk
    iexact H
  | n + 1, hn, K => by
    unfold ggtSteps
    rw [wp_bind]
    iintro ⟨H, Hk⟩
    iapply (ggtSteps_wp k hk E n (Nat.le_of_succ_le hn) _)
    isplitl [H]; · iexact H
    iintro H
    iapply (ggtStep_wp c arg2 harg2 arg3 harg3 arg4 harg4 arg5 harg5 x0 x1 k n hk hn E K)
    isplitl [H]; · iexact H
    iexact Hk

include harg2 harg3 harg4 harg5 in
/-- Row block `k`: entered with any output block and with the scratch keeping the earlier row blocks' products. -/
theorem ggtBranch_wp (k : ℕ) (hk : k < 7) (E : Set ℕ) (K : PUnit → sProp 𝕄) :
    iprop(ggtHeld c arg2 arg3 arg4 arg5 x0 x1 k 0 hk ∗ (ggtHeld c arg2 arg3 arg4 arg5 x0 x1 k 7 hk -∗ K ⟨⟩))
      ⊢ wp frame (wpE (defs₀ (F := F)) Variants.none c none) E (ggtBranch arg2 arg3 arg4 arg5 k hk) K := by
  have er : View.readAt (Elt F) arg2.view (ggtRows k hk).toLoadRect (harg2.unread x0) = ggtRow x0 k hk :=
    funext fun y => harg2.readAt_unread _ _ y
  unfold ggtBranch
  iintro ⟨H, Hk⟩
  unfold ggtHeld
  icases H with ⟨H0, H⟩
  unfold owns
  icases H0 with ⟨%f0, %hf0, H0⟩
  obtain rfl := harg2.eq_unread hf0
  simp only [Prog.lift, Prog.bind_op, Prog.bind_ret]
  sl_step
  try rw [er]
  iapply (ggtSteps_wp c arg2 harg2 arg3 harg3 arg4 harg4 arg5 harg5 x0 x1 k hk E 7 (Nat.le_refl 7) K)
  unfold ggtHeld owns
  isplitl [H0 H]
  · isplitl [H0]
    · iexists _; isplitr; · ipureintro; exact harg2.read_unread _
      iexact H0
    iexact H
  iexact Hk
end

end Cert.KernelIdeal.Soap

end
-- ==== Proof.Region5.lean ====
/-
The sixth call: one block of rows of the moving average of `grad · gradᵀ`. What one grid point does, for any values the
call finds in its arrays. Point `t` is row block `t % 7` of batch `t / 7`; between the points the scratch keeps the
products of the earlier row blocks of the batch.
-/
module

public import proofs.«01_k».proof.Proof.GgtStep
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Soap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The blocks of the windows -/

/-- The block of window `w` at grid point `t`, read off the window's array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Proc.devRef .tc (Pipeline.arrRef spec5 w)))

/-! An input's staging buffer holds its block at every point, fetched at that point or kept from an earlier one. -/

theorem before5_0_of {c : Dev nD} (dat : Dat τ (Elt F) Unit ℕ (UR sig nD τ) ℕ cfg5 c) (hA : dat.A 0 = V c (Proc.devRef .tc (Pipeline.arrRef spec5 0)))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Proc.devRef .tc (Pipeline.arrRef spec5 1)))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! Each window's staging memref at point `t`, and that it is whole. -/

abbrev ms5_0 (t : Fin cfg5.N) : Memref sig .tc .vmem S1x2688x2816 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x384x2688 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x384x2688 .f32 := win5_2.stage (cfg5.slots t 2)
abbrev hs5_2 (t : Fin cfg5.N) : (ms5_2 t).IsWhole := hstage5_2 ((cfg5.slots t 2).cast nbuf5_2)

/-! ## Which row block a point is at -/

theorem ggt_hcond0 (t : Fin cfg5.N) : k5_cond1 (grid5.coords t) = 1#1 ↔ t.val % 7 = 0 := by
  have e1 : (grid5.coords t 1).val = t.val / 1 % 7 := Pipeline.Grid.coords_val t 1 (by decide) rfl
  simp only [k5_cond1, e1]; word_cmp
theorem ggt_hcond1 (t : Fin cfg5.N) : k5_cond2 (grid5.coords t) = 1#1 ↔ t.val % 7 = 1 := by
  have e1 : (grid5.coords t 1).val = t.val / 1 % 7 := Pipeline.Grid.coords_val t 1 (by decide) rfl
  simp only [k5_cond2, e1]; word_cmp
theorem ggt_hcond2 (t : Fin cfg5.N) : k5_cond3 (grid5.coords t) = 1#1 ↔ t.val % 7 = 2 := by
  have e1 : (grid5.coords t 1).val = t.val / 1 % 7 := Pipeline.Grid.coords_val t 1 (by decide) rfl
  simp only [k5_cond3, e1]; word_cmp
theorem ggt_hcond3 (t : Fin cfg5.N) : k5_cond4 (grid5.coords t) = 1#1 ↔ t.val % 7 = 3 := by
  have e1 : (grid5.coords t 1).val = t.val / 1 % 7 := Pipeline.Grid.coords_val t 1 (by decide) rfl
  simp only [k5_cond4, e1]; word_cmp
theorem ggt_hcond4 (t : Fin cfg5.N) : k5_cond5 (grid5.coords t) = 1#1 ↔ t.val % 7 = 4 := by
  have e1 : (grid5.coords t 1).val = t.val / 1 % 7 := Pipeline.Grid.coords_val t 1 (by decide) rfl
  simp only [k5_cond5, e1]; word_cmp
theorem ggt_hcond5 (t : Fin cfg5.N) : k5_cond6 (grid5.coords t) = 1#1 ↔ t.val % 7 = 5 := by
  have e1 : (grid5.coords t 1).val = t.val / 1 % 7 := Pipeline.Grid.coords_val t 1 (by decide) rfl
  simp only [k5_cond6, e1]; word_cmp
theorem ggt_hcond6 (t : Fin cfg5.N) : k5_cond7 (grid5.coords t) = 1#1 ↔ t.val % 7 = 6 := by
  have e1 : (grid5.coords t 1).val = t.val / 1 % 7 := Pipeline.Grid.coords_val t 1 (by decide) rfl
  simp only [k5_cond7, e1]; word_cmp

theorem ggt_row_lt (t : Fin cfg5.N) : t.val % 7 < 7 := Nat.mod_lt _ (by decide)

/-- Of seven guarded programs run one after the other, when exactly one guard holds, that one runs. -/
theorem ggt_pick (k : ℕ) (hk : k < 7) (p0 p1 p2 p3 p4 p5 p6 : Prop) [Decidable p0] [Decidable p1] [Decidable p2] [Decidable p3] [Decidable p4] [Decidable p5] [Decidable p6]
    (h0 : p0 ↔ k = 0) (h1 : p1 ↔ k = 1) (h2 : p2 ↔ k = 2) (h3 : p3 ↔ k = 3) (h4 : p4 ↔ k = 4) (h5 : p5 ↔ k = 5) (h6 : p6 ↔ k = 6)
    (b : (k : ℕ) → k < 7 → Prog (TpuEff nD τ sig (Elt F) Λ₀ .tc) PUnit) :
    (do
      if p0 then b 0 (by decide) else pure ⟨⟩
      if p1 then b 1 (by decide) else pure ⟨⟩
      if p2 then b 2 (by decide) else pure ⟨⟩
      if p3 then b 3 (by decide) else pure ⟨⟩
      if p4 then b 4 (by decide) else pure ⟨⟩
      if p5 then b 5 (by decide) else pure ⟨⟩
      if p6 then b 6 (by decide) else pure ⟨⟩) = b k hk := by
  match k, hk with
  | 0, _ => simp [h0, h1, h2, h3, h4, h5, h6]; exact Prog.bind_pure _
  | 1, _ => simp [h0, h1, h2, h3, h4, h5, h6]; exact Prog.bind_pure _
  | 2, _ => simp [h0, h1, h2, h3, h4, h5, h6]; exact Prog.bind_pure _
  | 3, _ => simp [h0, h1, h2, h3, h4, h5, h6]; exact Prog.bind_pure _
  | 4, _ => simp [h0, h1, h2, h3, h4, h5, h6]; exact Prog.bind_pure _
  | 5, _ => simp [h0, h1, h2, h3, h4, h5, h6]; exact Prog.bind_pure _
  | 6, _ => simp [h0, h1, h2, h3, h4, h5, h6]

set_option maxHeartbeats 4000000 in
/-- At a point the body is the walk of its row block. -/
theorem cc5_ggt_at (t : Fin cfg5.N) (arg2 : Memref sig .tc .vmem S1x2688x2816 .bf16) (harg2 : arg2.IsWhole) (arg3 : Memref sig .tc .vmem S1x384x2688 .f32) (harg3 : arg3.IsWhole)
    (arg4 : Memref sig .tc .vmem S1x384x2688 .f32) (harg4 : arg4.IsWhole) (arg5 : Memref sig .tc .vmem S21x384x384 .f32) (harg5 : arg5.IsWhole) :
    cc5_ggt (F := F) (grid5.coords t) arg2 harg2 arg3 harg3 arg4 harg4 arg5 harg5
      = ggtBranch arg2 arg3 arg4 arg5 (t.val % 7) (ggt_row_lt t) := by
  rw [cc5_ggt_eq]
  exact ggt_pick (t.val % 7) (ggt_row_lt t) _ _ _ _ _ _ _ (ggt_hcond0 t) (ggt_hcond1 t) (ggt_hcond2 t) (ggt_hcond3 t) (ggt_hcond4 t) (ggt_hcond5 t) (ggt_hcond6 t)
    (fun k hk => ggtBranch arg2 arg3 arg4 arg5 k hk)

/-! ## What a point leaves in the output's block -/

/-- Row block `k` of the result, tile by tile. -/
def outGgt (x0 : Vec F S1x2688x2816 .bf16) (x1 : Vec F S1x384x2688 .f32) (k : ℕ) (hk : k < 7) : Vec F S1x384x2688 .f32 := fun y =>
  ggtVal x0 x1 k ((y 2).val / 384) hk (Nat.div_lt_of_lt_mul (y 2).isLt)
    (fun a => match a with
      | ⟨0, _⟩ => y 0
      | ⟨1, _⟩ => y 1
      | ⟨2, _⟩ => (⟨(y 2).val % 384, Nat.mod_lt _ (by decide)⟩ : Fin 384))

/-- Once all seven tiles are written the block is the row block of the result. -/
theorem GgtOut.whole {x0 : Vec F S1x2688x2816 .bf16} {x1 : Vec F S1x384x2688 .f32} {k : ℕ} {hk : k < 7} {o : Vec F S1x384x2688 .f32}
    (h : GgtOut x0 x1 k 7 hk o) : o = outGgt x0 x1 k hk := by
  funext y
  have hj : (y 2).val / 384 < 7 := Nat.div_lt_of_lt_mul (y 2).isLt
  have e := congrFun (h ((y 2).val / 384) hj hj) (fun a => match a with
      | ⟨0, _⟩ => y 0
      | ⟨1, _⟩ => y 1
      | ⟨2, _⟩ => (⟨(y 2).val % 384, Nat.mod_lt _ (by decide)⟩ : Fin 384))
  refine Eq.trans (congrArg o ?_) e
  funext a
  refine Fin.ext ?_
  match a with
  | ⟨0, _⟩ => show (y 0).val = 0 + 1 * (y 0).val; omega
  | ⟨1, _⟩ => show (y 1).val = 0 + 1 * (y 1).val; omega
  | ⟨2, _⟩ => show (y 2).val = 384 * ((y 2).val / 384) + 1 * ((y 2).val % 384); omega

def outAt5_2 (c : Dev nD) (t : Fin cfg5.N) : Vec F S1x384x2688 .f32 :=
  outGgt (iblk5 V c 0 t) (iblk5 V c 1 t) (t.val % 7) (ggt_row_lt t)

/-! ## What the scratch keeps between the points -/

abbrev scM5_0 : Memref sig .tc .vmem S21x384x384 .f32 := Memref.whole cc5_scratch0

/-- Before point `t`: within a batch, the products of the batch's earlier row blocks. -/
def scr5 (c : Dev nD) (t : ℕ) (s : Vec F S21x384x384 .f32) : Prop :=
  t % 7 ≠ 0 → ∀ u : Fin cfg5.N, u.val / 7 = t / 7 → GgtScr (iblk5 V c 0 u) (t % 7) 0 s

def Φ5 (c : Dev nD) (t : ℕ) : sProp 𝕄 :=
  iprop(((∃ s, ⌜scr5 V c t s⌝ ∗ owns (c : Thread nD τ) scM5_0 fullShare s) ∗ Pipeline.scopedRestBut (Ix := Unit) (Name := ℕ) (U := UR sig nD τ) (Lvl := ℕ) (Val := Elt F) spec5 c [cc5_scratch0]) ∗ ∃ r, prngReg c r)

theorem PhiA5_eq (c : Dev nD) : (Pipeline.ΦA spec5 c : sProp 𝕄)
    = iprop(((∃ s, owns (c : Thread nD τ) scM5_0 fullShare s) ∗ Pipeline.scopedRestBut (Ix := Unit) (Name := ℕ) (U := UR sig nD τ) (Lvl := ℕ) (Val := Elt F) spec5 c [cc5_scratch0]) ∗ ∃ r, prngReg c r) := by
  unfold Pipeline.ΦA; rw [scopedRest5_split]; simp only [scM5_0, owns_whole]; try rfl

theorem hin5 (c : Dev nD) : (Pipeline.ΦA spec5 c : sProp 𝕄) ⊢ Φ5 V c 0 := by
  rw [PhiA5_eq]; unfold Φ5
  iintro ⟨⟨⟨%s, Hs⟩, Hr⟩, Hp⟩
  isplitr [Hp]; swap; · iexact Hp
  isplitr [Hr]; swap; · iexact Hr
  iexists s; isplitr; swap; · iexact Hs
  ipureintro; intro h; exact absurd rfl h

theorem hout5 (c : Dev nD) (t : ℕ) : Φ5 V c t ⊢ (Pipeline.ΦA spec5 c : sProp 𝕄) := by
  rw [PhiA5_eq]; unfold Φ5
  iintro ⟨⟨⟨%s, %h, Hs⟩, Hr⟩, Hp⟩
  isplitr [Hp]; swap; · iexact Hp
  isplitr [Hr]; swap; · iexact Hr
  iexists s; iexact Hs

/-- The proof data of this call on core `c`: the arrays as the call finds them; after the body at point `t` each input's
    buffer at its block and the output's at `outAt5_2`. -/
def dat5 (c : Dev nD) : Dat τ (Elt F) Unit ℕ (UR sig nD τ) ℕ cfg5 c where
  A w := V c (Proc.devRef .tc (Pipeline.arrRef spec5 w))
  after w t := match w with
    | ⟨0, _⟩ => iblk5 V c 0 t
    | ⟨1, _⟩ => iblk5 V c 1 t
    | ⟨2, _⟩ => outAt5_2 V c t
  Φ t := Φ5 V c t.val
  q _ := fullShare
  owed _ := 0

theorem A_eq5 (c : Dev nD) (w : Fin cfg5.W) : (dat5 V c).A w = V c (Proc.devRef .tc (Pipeline.arrRef spec5 w)) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = outAt5_2 V c t := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- The points of a batch see one block of the first window: the batch's whole matrix. -/
theorem iblk5_batch (c : Dev nD) (u t : Fin cfg5.N) (h : u.val / 7 = t.val / 7) :
    (iblk5 V c 0 u : Vec F S1x2688x2816 .bf16) = iblk5 V c 0 t := by
  have hi : (cfg5.win 0).index u = (cfg5.win 0).index t := by
    have key : ∀ u t : Fin cfg5.N, u.val / 7 = t.val / 7 → (cfg5.win 0).index u = (cfg5.win 0).index t := by decide +kernel
    exact key u t h
  exact (show (iblk5 V c 0 u : Vec F S1x2688x2816 .bf16) = (dat5 V c).fetched 0 u (iblk5 V c 0 t) by
      unfold Dat.fetched Dat.blockOf iblk5; rw [A_eq5]; rfl).trans
    (((dat5 V c).fetched_congr 0 hi rfl (iblk5 V c 0 t)).trans
      (by unfold Dat.fetched Dat.blockOf iblk5; rw [A_eq5]; rfl))

theorem scr5_enter (c : Dev nD) (t : Fin cfg5.N) (s : Vec F S21x384x384 .f32) (h : scr5 V c t.val s) :
    GgtScr (iblk5 V c 0 t) (t.val % 7) 0 s := by
  by_cases h0 : t.val % 7 = 0
  · intro a b hb hab hc; exfalso; omega
  · exact h h0 t rfl

theorem scr5_leave (c : Dev nD) (t : Fin cfg5.N) (s : Vec F S21x384x384 .f32) (h : GgtScr (iblk5 V c 0 t) (t.val % 7) 7 s) :
    scr5 V c (t.val + 1) s := by
  intro h0 u hu
  rw [iblk5_batch V c u t (by omega)]
  intro a b hb hab hc
  exact h a b hb hab (by omega)

/-! ## The body at a grid point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t))

set_option maxHeartbeats 800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = Φ5 V c (t.val + 1) from rfl, show (dat5 V c).Φ t.castSucc = Φ5 V c t.val from rfl,
    show (dat5 V c).owesAt () t.succ = (dat5 V c).owesAt () t.castSucc from rfl,
    after5_0, after5_1, after5_2, cc5_ggt_at]
  unfold outAt5_2 Φ5
  iintro ⟨⟨⟨⟨%s, %hs, Hs⟩, Hr⟩, Hp⟩, Ho, ⟨%d0, H0⟩, ⟨%d1, H1⟩, ⟨%d2, H2⟩⟩
  iapply (ggtBranch_wp c (ms5_0 t) (hs5_0 t) (ms5_1 t) (hs5_1 t) (ms5_2 t) (hs5_2 t) scM5_0 (Memref.isWhole_whole _)
    (iblk5 V c 0 t) (iblk5 V c 1 t) (t.val % 7) (ggt_row_lt t) Set.univ _)
  unfold ggtHeld
  isplitl [H0 H1 H2 Hs]
  · isplitl [H0]; · iexact H0
    isplitl [H1]; · iexact H1
    isplitl [H2]
    · iexists _; isplitr; swap; · iexact H2
      ipureintro; intro j hj h; exact absurd h (Nat.not_lt_zero _)
    iexists s; isplitr; swap; · iexact Hs
    ipureintro; exact scr5_enter V c t s hs
  iintro ⟨H0, H1, ⟨%o, %ho, H2⟩, ⟨%s', %hs', Hs⟩⟩
  isplitl [Hs Hr Hp]
  · isplitr [Hp]; swap; · iexact Hp
    isplitr [Hr]; swap; · iexact Hr
    iexists s'; isplitr; swap; · iexact Hs
    ipureintro; exact scr5_leave V c t s' hs'
  isplitl [Ho]; · iexact Ho
  isplitl [H0]; · iexact H0
  isplitl [H1]; · iexact H1
  rw [← ho.whole]
  iexact H2

/-- The output is written at every point. -/
theorem liveAt5_2 (t : Fin cfg5.N) : cfg5.idle 2 (cfg5.grid.coords t) = false := by
  have hk := ggt_row_lt t
  refine Bool.eq_false_iff.mpr fun h => ?_
  have h' : (!(k5_cond1 (grid5.coords t) == 1#1) && !(k5_cond2 (grid5.coords t) == 1#1) && !(k5_cond3 (grid5.coords t) == 1#1)
    && !(k5_cond4 (grid5.coords t) == 1#1) && !(k5_cond5 (grid5.coords t) == 1#1) && !(k5_cond6 (grid5.coords t) == 1#1)
    && !(k5_cond7 (grid5.coords t) == 1#1)) = true := h
  simp only [Bool.and_eq_true, Bool.not_eq_true', beq_eq_false_iff_ne, ne_eq, ggt_hcond0, ggt_hcond1, ggt_hcond2, ggt_hcond3, ggt_hcond4,
    ggt_hcond5, ggt_hcond6] at h'
  omega

theorem defs₀_row5 (t : Fin cfg5.N) :
    defs₀ (F := F) .tc cfg5.body (cfg5.bodyArgs t (cfg5.slots t)) = bodyAt5 t := by
  unfold defs₀; rw [Defs.onTc_tc]

/-- The body meets the pipeline's obligation at every point. -/
theorem body_obligation5 (c : Dev nD) : BodyObligation (dat5 (F := F) V c) (defs₀ (F := F)) Variants.none () Set.univ := fun t => by
  rw [bigSep_W5, bigSep_W5, defs₀_row5]
  refine triple_restated (sound_body5 V c t) rfl .rfl fun _ => ?_
  rw [liveAt5_2 t]
  exact .rfl

end Cert.KernelIdeal.Soap

end
-- ==== Proof.GtgProgram.lean ====
/-
The seventh call, program: one grid point of `gradᵀ · grad` is, for the column block `k` it is at, a walk over the column
tiles `j`. `gtgStep k j` is one step of that walk, for all three cases: left of the diagonal (the product was left
transposed in the scratch by an earlier column block), on it, and right of it (the product is computed and kept transposed).
The eleven guarded stretches of the printed body are these walks.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.WritesUnit
public import Idealize.ShloMosaic.Lib.Tactic
public import Idealize.ShloMosaic.Lib.WordCmp
public import Idealize.ShloMosaic.Lib.Claim

@[expose] public section

set_option maxRecDepth 16384

noncomputable section

namespace Cert.KernelIdeal.Soap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The product of two column blocks. -/
def gtgDot (gi gj : Vec F S1x2688x256 .bf16) : FVec F S256x256 .f32 :=
  matmul dot_S2688x256_S2688x256_S256x256_0_0_1_1_n_n none (shapeCast S2688x256 gi shapeCasts_S1x2688x256_S2688x256)
    (shapeCast S2688x256 gj shapeCasts_S1x2688x256_S2688x256) (constant S256x256 .f32 0x00000000#32)

/-- What the scratch keeps of it: its transpose. -/
def gtgKeep (gi gj : Vec F S1x2688x256 .bf16) : FVec F S1x256x256 .f32 :=
  shapeCast S1x256x256 (transpose S256x256 [1, 0] (gtgDot gi gj) transposes_S256x256_p1_0_S256x256) shapeCasts_S256x256_S1x256x256

/-- The moving average of a tile. -/
def gtgMix (x : FVec F S256x256 .f32) (l : Vec F S1x256x256 .f32) : FVec F S1x256x256 .f32 :=
  shapeCast S1x256x256 (addf
    (mulf (broadcast S256x256 (Scalar.ofBits .f32 0x3F733333#32)) (shapeCast S256x256 l shapeCasts_S1x256x256_S256x256))
    (mulf (broadcast S256x256 (Scalar.ofBits .f32 0x3D4CCCD0#32)) x)) shapeCasts_S256x256_S1x256x256

/-- The slot of the scratch that keeps the product of column blocks `j < k`. -/
def gtgSlot (j k : ℕ) : ℕ := j * 11 - j * (j + 1) / 2 + k - j - 1

theorem gtgSlot_lt (j k : ℕ) (h : j < k) (hk : k < 11) : gtgSlot j k < 55 := by
  have e : ∀ k < 11, ∀ j < k, j * 11 - j * (j + 1) / 2 + k - j - 1 < 55 := by decide
  exact e k hk j h

theorem inbGtgRows (k : ℕ) (hk : k < 11) : ∀ a, (![0, 0, 256 * k] : Fin 3 → ℕ) a + S1x2688x256.size a ≤ S1x2688x2816.size a := by
  intro a; fin_cases a
  · show 0 + 1 ≤ 1; omega
  · show 0 + 2688 ≤ 2688; omega
  · show 256 * k + 256 ≤ 2816; omega
theorem inbGtgTile (j : ℕ) (hj : j < 11) : ∀ a, (![0, 0, 256 * j] : Fin 3 → ℕ) a + S1x256x256.size a ≤ S1x256x2816.size a := by
  intro a; fin_cases a
  · show 0 + 1 ≤ 1; omega
  · show 0 + 256 ≤ 256; omega
  · show 256 * j + 256 ≤ 2816; omega
theorem inbGtgSlot (s : ℕ) (hs : s < 55) : ∀ a, (![s, 0, 0] : Fin 3 → ℕ) a + S1x256x256.size a ≤ S55x256x256.size a := by
  intro a; fin_cases a
  · show s + 1 ≤ 55; omega
  · show 0 + 256 ≤ 256; omega
  · show 0 + 256 ≤ 256; omega

abbrev gtgRows (k : ℕ) (hk : k < 11) : Rect S1x2688x2816 := Rect.unit (s := S1x2688x2816) ![0, 0, 256 * k] S1x2688x256.size (inbGtgRows k hk)
abbrev gtgTile (j : ℕ) (hj : j < 11) : Rect S1x256x2816 := Rect.unit (s := S1x256x2816) ![0, 0, 256 * j] S1x256x256.size (inbGtgTile j hj)
abbrev gtgCell (s : ℕ) (hs : s < 55) : Rect S55x256x256 := Rect.unit (s := S55x256x256) ![s, 0, 0] S1x256x256.size (inbGtgSlot s hs)

section
variable (arg2 : Memref sig .tc .vmem S1x2688x2816 .bf16) (arg3 : Memref sig .tc .vmem S1x256x2816 .f32)
  (arg4 : Memref sig .tc .vmem S1x256x2816 .f32) (arg5 : Memref sig .tc .vmem S55x256x256 .f32)

/-- One column tile of column block `k`. -/
def gtgStep (k j : ℕ) (hk : k < 11) (hj : j < 11) (gi : Vec F S1x2688x256 .bf16) : Prog (TpuEff nD τ sig (Elt F) Λ₀ .tc) PUnit :=
  if hjk : j < k then do
    let x : Vec F S1x256x256 .f32 ← Prog.lift (.load arg5 (gtgCell (gtgSlot j k) (gtgSlot_lt j k hjk hk)).toLoadRect (View.loadsAt_vmem h_S1x256x256))
    let l : Vec F S1x256x256 .f32 ← Prog.lift (.load arg3 (gtgTile j hj).toLoadRect (View.loadsAt_vmem h_S1x256x256))
    let _ : Vec F S1x256x256 .f32 ← Prog.lift (.load arg4 (gtgTile j hj).toLoadRect (View.loadsAt_vmem h_S1x256x256))
    Prog.lift (.store arg4 (gtgTile j hj) (gtgMix (shapeCast S256x256 x shapeCasts_S1x256x256_S256x256) l) Finset.univ (View.stores_vmem_bits_univ h_S1x256x256 rfl) (.inl rfl))
  else do
    let gj : Vec F S1x2688x256 .bf16 ← Prog.lift (.load arg2 (gtgRows j hj).toLoadRect (View.loadsAt_vmem h_S1x2688x256))
    if hkj : k < j then do
      let _ : Vec F S1x256x256 .f32 ← Prog.lift (.load arg5 (gtgCell (gtgSlot k j) (gtgSlot_lt k j hkj hj)).toLoadRect (View.loadsAt_vmem h_S1x256x256))
      Prog.lift (.store arg5 (gtgCell (gtgSlot k j) (gtgSlot_lt k j hkj hj)) (gtgKeep gi gj) Finset.univ (View.stores_vmem_bits_univ h_S1x256x256 rfl) (.inl rfl))
    else pure ⟨⟩
    let l : Vec F S1x256x256 .f32 ← Prog.lift (.load arg3 (gtgTile j hj).toLoadRect (View.loadsAt_vmem h_S1x256x256))
    let _ : Vec F S1x256x256 .f32 ← Prog.lift (.load arg4 (gtgTile j hj).toLoadRect (View.loadsAt_vmem h_S1x256x256))
    Prog.lift (.store arg4 (gtgTile j hj) (gtgMix (gtgDot gi gj) l) Finset.univ (View.stores_vmem_bits_univ h_S1x256x256 rfl) (.inl rfl))

/-- The first `n` column tiles of column block `k`. -/
def gtgSteps (k : ℕ) (hk : k < 11) (gi : Vec F S1x2688x256 .bf16) : (n : ℕ) → n ≤ 11 → Prog (TpuEff nD τ sig (Elt F) Λ₀ .tc) PUnit
  | 0, _ => pure ⟨⟩
  | n + 1, h => do gtgSteps k hk gi n (Nat.le_of_succ_le h); gtgStep arg2 arg3 arg4 arg5 k n hk h gi

/-- Column block `k`. -/
def gtgBranch (k : ℕ) (hk : k < 11) : Prog (TpuEff nD τ sig (Elt F) Λ₀ .tc) PUnit := do
  let gi : Vec F S1x2688x256 .bf16 ← Prog.lift (.load arg2 (gtgRows k hk).toLoadRect (View.loadsAt_vmem h_S1x2688x256))
  gtgSteps arg2 arg3 arg4 arg5 k hk gi 11 (Nat.le_refl 11)
end

set_option maxHeartbeats 4000000 in
/-- The first nine guarded stretches are the first nine column blocks' walks. -/
theorem k6_part55_eq (i : grid6.Coords) (arg2 : Memref sig .tc .vmem S1x2688x2816 .bf16) (harg2 : arg2.IsWhole) (arg3 : Memref sig .tc .vmem S1x256x2816 .f32) (harg3 : arg3.IsWhole) (arg4 : Memref sig .tc .vmem S1x256x2816 .f32) (harg4 : arg4.IsWhole) (arg5 : Memref sig .tc .vmem S55x256x256 .f32) (harg5 : arg5.IsWhole) :
    ∃ r, k6_part55 (F := F) i arg2 harg2 arg3 harg3 arg4 harg4 arg5 harg5 = (do
      if k6_cond1 i = 1#1 then gtgBranch arg2 arg3 arg4 arg5 0 (by decide) else pure ⟨⟩
      if k6_cond2 i = 1#1 then gtgBranch arg2 arg3 arg4 arg5 1 (by decide) else pure ⟨⟩
      if k6_cond3 i = 1#1 then gtgBranch arg2 arg3 arg4 arg5 2 (by decide) else pure ⟨⟩
      if k6_cond4 i = 1#1 then gtgBranch arg2 arg3 arg4 arg5 3 (by decide) else pure ⟨⟩
      if k6_cond5 i = 1#1 then gtgBranch arg2 arg3 arg4 arg5 4 (by decide) else pure ⟨⟩
      if k6_cond6 i = 1#1 then gtgBranch arg2 arg3 arg4 arg5 5 (by decide) else pure ⟨⟩
      if k6_cond7 i = 1#1 then gtgBranch arg2 arg3 arg4 arg5 6 (by decide) else pure ⟨⟩
      if k6_cond8 i = 1#1 then gtgBranch arg2 arg3 arg4 arg5 7 (by decide) else pure ⟨⟩
      if k6_cond9 i = 1#1 then gtgBranch arg2 arg3 arg4 arg5 8 (by decide) else pure ⟨⟩
      pure r) := ⟨_, by rw [k6_part55_eq_skeleton]; rfl⟩

set_option maxHeartbeats 4000000 in
/-- The printed body is these and the last two. -/
theorem cc6_gtg_eq (i : grid6.Coords) (arg2 : Memref sig .tc .vmem S1x2688x2816 .bf16) (harg2 : arg2.IsWhole) (arg3 : Memref sig .tc .vmem S1x256x2816 .f32) (harg3 : arg3.IsWhole) (arg4 : Memref sig .tc .vmem S1x256x2816 .f32) (harg4 : arg4.IsWhole) (arg5 : Memref sig .tc .vmem S55x256x256 .f32) (harg5 : arg5.IsWhole) :
    cc6_gtg (F := F) i arg2 harg2 arg3 harg3 arg4 harg4 arg5 harg5 = (do
      let _ ← k6_part55 (F := F) i arg2 harg2 arg3 harg3 arg4 harg4 arg5 harg5
      if k6_cond10 i = 1#1 then gtgBranch arg2 arg3 arg4 arg5 9 (by decide) else pure ⟨⟩
      if k6_cond11 i = 1#1 then gtgBranch arg2 arg3 arg4 arg5 10 (by decide) else pure ⟨⟩) := by
  rw [cc6_gtg_eq_skeleton]
  rfl

end Cert.KernelIdeal.Soap

end
-- ==== Proof.GtgStep.lean ====
/-
The seventh call, one step: what a walk over the column tiles of column block `k` has written after `n` tiles, in the output
block (`GtgOut`) and in the scratch (`GtgScr`), and that one step takes `n` to `n + 1`.
-/
module

public import proofs.«01_k».proof.Proof.GtgProgram
public import Idealize.ShloMosaic.Lib.VecWindow
public import Idealize.ShloMosaic.Lib.WholeRead
public import Idealize.ShloMosaic.Lib.Pipeline.FrameBody
public import Idealize.ShloMosaic.Lib.Ring
public import Idealize.ShloMosaic.Lib.WritesUnit
public import Idealize.ShloMosaic.Lib.Tactic
public import Idealize.ShloMosaic.Lib.WordCmp
public import Idealize.ShloMosaic.Lib.Claim

@[expose] public section

set_option maxRecDepth 16384

noncomputable section

namespace Cert.KernelIdeal.Soap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow

/-- Column block `k` of the matrix. -/
abbrev gtgRow (x0 : Vec F S1x2688x2816 .bf16) (k : ℕ) (hk : k < 11) : Vec F S1x2688x256 .bf16 :=
  window x0 ![0, 0, 256 * k] S1x2688x256.size (inbGtgRows k hk)
/-- Column tile `j` of a block of rows. -/
abbrev gtgCol (x1 : Vec F S1x256x2816 .f32) (j : ℕ) (hj : j < 11) : Vec F S1x256x256 .f32 :=
  window x1 ![0, 0, 256 * j] S1x256x256.size (inbGtgTile j hj)
/-- Slot `s` of the scratch. -/
abbrev gtgAt (x : Vec F S55x256x256 .f32) (s : ℕ) (hs : s < 55) : Vec F S1x256x256 .f32 :=
  window x ![s, 0, 0] S1x256x256.size (inbGtgSlot s hs)

/-- Tile `j` of column block `k` of the result. -/
def gtgVal (x0 : Vec F S1x2688x2816 .bf16) (x1 : Vec F S1x256x2816 .f32) (k j : ℕ) (hk : k < 11) (hj : j < 11) : FVec F S1x256x256 .f32 :=
  gtgMix (if j < k then shapeCast S256x256 (gtgKeep (gtgRow x0 j hj) (gtgRow x0 k hk)) shapeCasts_S1x256x256_S256x256
    else gtgDot (gtgRow x0 k hk) (gtgRow x0 j hj)) (gtgCol x1 j hj)

/-- The first `n` tiles of the output block are written. -/
def GtgOut (x0 : Vec F S1x2688x2816 .bf16) (x1 : Vec F S1x256x2816 .f32) (k n : ℕ) (hk : k < 11) (o : Vec F S1x256x2816 .f32) : Prop :=
  ∀ j (hj : j < 11), j < n → gtgCol o j hj = gtgVal x0 x1 k j hk hj

/-- The scratch keeps the products of all earlier column blocks, and of this one with the column blocks below `n`. -/
def GtgScr (x0 : Vec F S1x2688x2816 .bf16) (k n : ℕ) (s : Vec F S55x256x256 .f32) : Prop :=
  ∀ a b (hb : b < 11) (hab : a < b), (a < k ∨ a = k ∧ b < n) →
    gtgAt s (gtgSlot a b) (gtgSlot_lt a b hab hb) = gtgKeep (gtgRow x0 a (hab.trans hb)) (gtgRow x0 b hb)

theorem gtgSlot_inj {a b c d : ℕ} (hab : a < b) (hb : b < 11) (hcd : c < d) (hd : d < 11) (h : gtgSlot a b = gtgSlot c d) : a = c ∧ b = d := by
  have e : ∀ b a d c : Fin 11, a < b → c < d → gtgSlot a b = gtgSlot c d → a = c ∧ b = d := by decide +kernel
  have r := e ⟨b, hb⟩ ⟨a, hab.trans hb⟩ ⟨d, hd⟩ ⟨c, hcd.trans hd⟩ hab hcd h
  exact ⟨congrArg Fin.val r.1, congrArg Fin.val r.2⟩

theorem GtgOut.step {x0 : Vec F S1x2688x2816 .bf16} {x1 : Vec F S1x256x2816 .f32} {k n : ℕ} {hk : k < 11} (hn : n < 11) {o : Vec F S1x256x2816 .f32}
    (h : GtgOut x0 x1 k n hk o) : GtgOut x0 x1 k (n + 1) hk (put o ![0, 0, 256 * n] S1x256x256.size (gtgVal x0 x1 k n hk hn)) := by
  intro j hj hjn
  rcases Nat.lt_succ_iff_lt_or_eq.mp hjn with hlt | rfl
  · refine (window_put_of_disjoint o ![0, 0, 256 * n] S1x256x256.size ![0, 0, 256 * j] S1x256x256.size (inbGtgTile j hj) _ 2 (Or.inl ?_)).trans (h j hj hlt)
    show 256 * j + 256 ≤ 256 * n; omega
  · exact window_put_same o _ _ _ _

theorem GtgScr.keep {x0 : Vec F S1x2688x2816 .bf16} {k n : ℕ} {s : Vec F S55x256x256 .f32} (hnk : n ≤ k)
    (h : GtgScr x0 k n s) : GtgScr x0 k (n + 1) s := by
  intro a b hb hab hc
  exact h a b hb hab (by omega)

theorem GtgScr.step {x0 : Vec F S1x2688x2816 .bf16} {k n : ℕ} (hn : n < 11) (hkn : k < n) {s : Vec F S55x256x256 .f32}
    (h : GtgScr x0 k n s) : GtgScr x0 k (n + 1) (put s ![gtgSlot k n, 0, 0] S1x256x256.size (gtgKeep (gtgRow x0 k (hkn.trans hn)) (gtgRow x0 n hn))) := by
  intro a b hb hab hc
  by_cases he : a = k ∧ b = n
  · obtain ⟨rfl, rfl⟩ := he
    exact window_put_same s _ _ _ _
  · refine (window_put_of_disjoint s ![gtgSlot k n, 0, 0] S1x256x256.size ![gtgSlot a b, 0, 0] S1x256x256.size (inbGtgSlot _ (gtgSlot_lt a b hab hb)) _ 0 ?_).trans (h a b hb hab (by omega))
    have hne : gtgSlot a b ≠ gtgSlot k n := fun e => he (gtgSlot_inj hab hb hkn hn e)
    show gtgSlot a b + 1 ≤ gtgSlot k n ∨ gtgSlot k n + 1 ≤ gtgSlot a b
    omega

section
variable (c : Dev nD) (arg2 : Memref sig .tc .vmem S1x2688x2816 .bf16) (harg2 : arg2.IsWhole) (arg3 : Memref sig .tc .vmem S1x256x2816 .f32) (harg3 : arg3.IsWhole)
  (arg4 : Memref sig .tc .vmem S1x256x2816 .f32) (harg4 : arg4.IsWhole) (arg5 : Memref sig .tc .vmem S55x256x256 .f32) (harg5 : arg5.IsWhole)
  (x0 : Vec F S1x2688x2816 .bf16) (x1 : Vec F S1x256x2816 .f32)

/-- What the core holds after `n` tiles of column block `k`. -/
def gtgHeld (k n : ℕ) (hk : k < 11) : sProp 𝕄 :=
  iprop(owns (c : Thread nD τ) arg2 fullShare x0 ∗ owns (c : Thread nD τ) arg3 fullShare x1
    ∗ (∃ o, ⌜GtgOut x0 x1 k n hk o⌝ ∗ owns (c : Thread nD τ) arg4 fullShare o)
    ∗ (∃ s, ⌜GtgScr x0 k n s⌝ ∗ owns (c : Thread nD τ) arg5 fullShare s))

include harg2 harg3 harg4 harg5 in
set_option maxHeartbeats 2000000 in
theorem gtgStep_wp (k n : ℕ) (hk : k < 11) (hn : n < 11) (E : Set ℕ) (K : PUnit → sProp 𝕄) :
    iprop(gtgHeld c arg2 arg3 arg4 arg5 x0 x1 k n hk ∗ (gtgHeld c arg2 arg3 arg4 arg5 x0 x1 k (n + 1) hk -∗ K ⟨⟩))
      ⊢ wp frame (wpE (defs₀ (F := F)) Variants.none c none) E (gtgStep arg2 arg3 arg4 arg5 k n hk hn (gtgRow x0 k hk)) K := by
  unfold gtgHeld owns
  iintro ⟨⟨⟨%f0, %hf0, H0⟩, ⟨%f1, %hf1, H1⟩, ⟨%o, %ho, %f2, %hf2, H2⟩, ⟨%s, %hs, %f3, %hf3, H3⟩⟩, Hk⟩
  obtain rfl := harg2.eq_unread hf0; obtain rfl := harg3.eq_unread hf1; obtain rfl := harg4.eq_unread hf2; obtain rfl := harg5.eq_unread hf3
  by_cases hnk : n < k
  · have e5 : View.readAt (Elt F) arg5.view (gtgCell (gtgSlot n k) (gtgSlot_lt n k hnk hk)).toLoadRect (harg5.unread s)
        = gtgAt s (gtgSlot n k) (gtgSlot_lt n k hnk hk) := funext fun y => harg5.readAt_unread _ _ y
    have ex := e5.trans (hs n k hk hnk (.inl hnk))
    have el : View.readAt (Elt F) arg3.view (gtgTile n hn).toLoadRect (harg3.unread x1) = gtgCol x1 n hn :=
      funext fun y => harg3.readAt_unread _ _ y
    clear e5
    unfold gtgStep; rw [dif_pos hnk]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap
      · iexists _; isplitr; swap; · iexact H2
        ipureintro; rfl
      · ipureintro
        rw [View.read_writes_cons_put _ _ _ _ _ rfl, View.writes_nil, harg4.read_unread]
        try rw [ex]
        try rw [el]
        have hv : gtgVal x0 x1 k n hk hn = gtgMix (shapeCast S256x256 (gtgKeep (gtgRow x0 n hn) (gtgRow x0 k hk)) shapeCasts_S1x256x256_S256x256) (gtgCol x1 n hn) := by
          unfold gtgVal; rw [if_pos hnk]
        rw [← hv]
        exact ho.step hn
    iexists _; isplitr; swap
    · iexists _; isplitr; swap; · iexact H3
      ipureintro; exact harg5.read_unread _
    · ipureintro; exact hs.keep hnk.le
  · have er : View.readAt (Elt F) arg2.view (gtgRows n hn).toLoadRect (harg2.unread x0) = gtgRow x0 n hn :=
      funext fun y => harg2.readAt_unread _ _ y
    have el : View.readAt (Elt F) arg3.view (gtgTile n hn).toLoadRect (harg3.unread x1) = gtgCol x1 n hn :=
      funext fun y => harg3.readAt_unread _ _ y
    have hv : gtgVal x0 x1 k n hk hn = gtgMix (gtgDot (gtgRow x0 k hk) (gtgRow x0 n hn)) (gtgCol x1 n hn) := by
      unfold gtgVal; rw [if_neg hnk]
    by_cases hkn : k < n
    · unfold gtgStep; rw [dif_neg hnk]; simp only [dif_pos hkn]
      sl_exec
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; swap
        · iexists _; isplitr; swap; · iexact H2
          ipureintro; rfl
        · ipureintro
          rw [View.read_writes_cons_put _ _ _ _ _ rfl, View.writes_nil, harg4.read_unread]
          try rw [er]
          try rw [el]
          rw [← hv]
          exact ho.step hn
      iexists _; isplitr; swap
      · iexists _; isplitr; swap; · iexact H3
        ipureintro; rfl
      · ipureintro
        rw [View.read_writes_cons_put _ _ _ _ _ rfl, View.writes_nil, harg5.read_unread]
        try rw [er]
        exact hs.step hn hkn
    · unfold gtgStep; rw [dif_neg hnk]; simp only [dif_neg hkn]
      sl_exec
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; swap
        · iexists _; isplitr; swap; · iexact H2
          ipureintro; rfl
        · ipureintro
          rw [View.read_writes_cons_put _ _ _ _ _ rfl, View.writes_nil, harg4.read_unread]
          try rw [er]
          try rw [el]
          rw [← hv]
          exact ho.step hn
      iexists _; isplitr; swap
      · iexists _; isplitr; swap; · iexact H3
        ipureintro; exact harg5.read_unread _
      · ipureintro; exact hs.keep (by omega)

include harg2 harg3 harg4 harg5 in
/-- A walk over the first `n` tiles. -/
theorem gtgSteps_wp (k : ℕ) (hk : k < 11) (E : Set ℕ) : ∀ (n : ℕ) (hn : n ≤ 11) (K : PUnit → sProp 𝕄),
    iprop(gtgHeld c arg2 arg3 arg4 arg5 x0 x1 k 0 hk ∗ (gtgHeld c arg2 arg3 arg4 arg5 x0 x1 k n hk -∗ K ⟨⟩))
      ⊢ wp frame (wpE (defs₀ (F := F)) Variants.none c none) E (gtgSteps arg2 arg3 arg4 arg5 k hk (gtgRow x0 k hk) n hn) K
  | 0, hn, K => by
    unfold gtgSteps
    iintro ⟨H, Hk⟩
    sl_step
    iapply Hk
    iexact H
  | n + 1, hn, K => by
    unfold gtgSteps
    rw [wp_bind]
    iintro ⟨H, Hk⟩
    iapply (gtgSteps_wp k hk E n (Nat.le_of_succ_le hn) _)
    isplitl [H]; · iexact H
    iintro H
    iapply (gtgStep_wp c arg2 harg2 arg3 harg3 arg4 harg4 arg5 harg5 x0 x1 k n hk hn E K)
    isplitl [H]; · iexact H
    iexact Hk

include harg2 harg3 harg4 harg5 in
/-- Column block `k`: entered with any output block and with the scratch keeping the earlier column blocks' products. -/
theorem gtgBranch_wp (k : ℕ) (hk : k < 11) (E : Set ℕ) (K : PUnit → sProp 𝕄) :
    iprop(gtgHeld c arg2 arg3 arg4 arg5 x0 x1 k 0 hk ∗ (gtgHeld c arg2 arg3 arg4 arg5 x0 x1 k 11 hk -∗ K ⟨⟩))
      ⊢ wp frame (wpE (defs₀ (F := F)) Variants.none c none) E (gtgBranch arg2 arg3 arg4 arg5 k hk) K := by
  have er : View.readAt (Elt F) arg2.view (gtgRows k hk).toLoadRect (harg2.unread x0) = gtgRow x0 k hk :=
    funext fun y => harg2.readAt_unread _ _ y
  unfold gtgBranch
  iintro ⟨H, Hk⟩
  unfold gtgHeld
  icases H with ⟨H0, H⟩
  unfold owns
  icases H0 with ⟨%f0, %hf0, H0⟩
  obtain rfl := harg2.eq_unread hf0
  simp only [Prog.lift, Prog.bind_op, Prog.bind_ret]
  sl_step
  try rw [er]
  iapply (gtgSteps_wp c arg2 harg2 arg3 harg3 arg4 harg4 arg5 harg5 x0 x1 k hk E 11 (Nat.le_refl 11) K)
  unfold gtgHeld owns
  isplitl [H0 H]
  · isplitl [H0]
    · iexists _; isplitr; · ipureintro; exact harg2.read_unread _
      iexact H0
    iexact H
  iexact Hk
end

end Cert.KernelIdeal.Soap

end
-- ==== Proof.Region6.lean ====
/-
The seventh call: one block of rows of the moving average of `gradᵀ · grad`. What one grid point does, for any values the
call finds in its arrays. Point `t` is column block `t % 11` of batch `t / 11`; between the points the scratch keeps the
products of the earlier column blocks of the batch.
-/
module

public import proofs.«01_k».proof.Proof.GtgStep
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16256

noncomputable section

namespace Cert.KernelIdeal.Soap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The blocks of the windows -/

/-- The block of window `w` at grid point `t`, read off the window's array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Proc.devRef .tc (Pipeline.arrRef spec6 w)))

/-! An input's staging buffer holds its block at every point, fetched at that point or kept from an earlier one. -/

theorem before6_0_of {c : Dev nD} (dat : Dat τ (Elt F) Unit ℕ (UR sig nD τ) ℕ cfg6 c) (hA : dat.A 0 = V c (Proc.devRef .tc (Pipeline.arrRef spec6 0)))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Proc.devRef .tc (Pipeline.arrRef spec6 1)))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! Each window's staging memref at point `t`, and that it is whole. -/

abbrev ms6_0 (t : Fin cfg6.N) : Memref sig .tc .vmem S1x2688x2816 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x256x2816 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x256x2816 .f32 := win6_2.stage (cfg6.slots t 2)
abbrev hs6_2 (t : Fin cfg6.N) : (ms6_2 t).IsWhole := hstage6_2 ((cfg6.slots t 2).cast nbuf6_2)

/-! ## Which column block a point is at -/

theorem gtg_hcond0 (t : Fin cfg6.N) : k6_cond1 (grid6.coords t) = 1#1 ↔ t.val % 11 = 0 := by
  have e1 : (grid6.coords t 1).val = t.val / 1 % 11 := Pipeline.Grid.coords_val t 1 (by decide) rfl
  simp only [k6_cond1, e1]; word_cmp
theorem gtg_hcond1 (t : Fin cfg6.N) : k6_cond2 (grid6.coords t) = 1#1 ↔ t.val % 11 = 1 := by
  have e1 : (grid6.coords t 1).val = t.val / 1 % 11 := Pipeline.Grid.coords_val t 1 (by decide) rfl
  simp only [k6_cond2, e1]; word_cmp
theorem gtg_hcond2 (t : Fin cfg6.N) : k6_cond3 (grid6.coords t) = 1#1 ↔ t.val % 11 = 2 := by
  have e1 : (grid6.coords t 1).val = t.val / 1 % 11 := Pipeline.Grid.coords_val t 1 (by decide) rfl
  simp only [k6_cond3, e1]; word_cmp
theorem gtg_hcond3 (t : Fin cfg6.N) : k6_cond4 (grid6.coords t) = 1#1 ↔ t.val % 11 = 3 := by
  have e1 : (grid6.coords t 1).val = t.val / 1 % 11 := Pipeline.Grid.coords_val t 1 (by decide) rfl
  simp only [k6_cond4, e1]; word_cmp
theorem gtg_hcond4 (t : Fin cfg6.N) : k6_cond5 (grid6.coords t) = 1#1 ↔ t.val % 11 = 4 := by
  have e1 : (grid6.coords t 1).val = t.val / 1 % 11 := Pipeline.Grid.coords_val t 1 (by decide) rfl
  simp only [k6_cond5, e1]; word_cmp
theorem gtg_hcond5 (t : Fin cfg6.N) : k6_cond6 (grid6.coords t) = 1#1 ↔ t.val % 11 = 5 := by
  have e1 : (grid6.coords t 1).val = t.val / 1 % 11 := Pipeline.Grid.coords_val t 1 (by decide) rfl
  simp only [k6_cond6, e1]; word_cmp
theorem gtg_hcond6 (t : Fin cfg6.N) : k6_cond7 (grid6.coords t) = 1#1 ↔ t.val % 11 = 6 := by
  have e1 : (grid6.coords t 1).val = t.val / 1 % 11 := Pipeline.Grid.coords_val t 1 (by decide) rfl
  simp only [k6_cond7, e1]; word_cmp
theorem gtg_hcond7 (t : Fin cfg6.N) : k6_cond8 (grid6.coords t) = 1#1 ↔ t.val % 11 = 7 := by
  have e1 : (grid6.coords t 1).val = t.val / 1 % 11 := Pipeline.Grid.coords_val t 1 (by decide) rfl
  simp only [k6_cond8, e1]; word_cmp
theorem gtg_hcond8 (t : Fin cfg6.N) : k6_cond9 (grid6.coords t) = 1#1 ↔ t.val % 11 = 8 := by
  have e1 : (grid6.coords t 1).val = t.val / 1 % 11 := Pipeline.Grid.coords_val t 1 (by decide) rfl
  simp only [k6_cond9, e1]; word_cmp
theorem gtg_hcond9 (t : Fin cfg6.N) : k6_cond10 (grid6.coords t) = 1#1 ↔ t.val % 11 = 9 := by
  have e1 : (grid6.coords t 1).val = t.val / 1 % 11 := Pipeline.Grid.coords_val t 1 (by decide) rfl
  simp only [k6_cond10, e1]; word_cmp
theorem gtg_hcond10 (t : Fin cfg6.N) : k6_cond11 (grid6.coords t) = 1#1 ↔ t.val % 11 = 10 := by
  have e1 : (grid6.coords t 1).val = t.val / 1 % 11 := Pipeline.Grid.coords_val t 1 (by decide) rfl
  simp only [k6_cond11, e1]; word_cmp

theorem gtg_row_lt (t : Fin cfg6.N) : t.val % 11 < 11 := Nat.mod_lt _ (by decide)

/-- Of eleven guarded programs run one after the other, the first nine grouped, when exactly one guard holds, that one runs. -/
theorem gtg_pick {ρ : Type} (r : ρ) (k : ℕ) (hk : k < 11) (p0 p1 p2 p3 p4 p5 p6 p7 p8 p9 p10 : Prop) [Decidable p0] [Decidable p1] [Decidable p2] [Decidable p3] [Decidable p4] [Decidable p5] [Decidable p6] [Decidable p7] [Decidable p8] [Decidable p9] [Decidable p10]
    (h0 : p0 ↔ k = 0) (h1 : p1 ↔ k = 1) (h2 : p2 ↔ k = 2) (h3 : p3 ↔ k = 3) (h4 : p4 ↔ k = 4) (h5 : p5 ↔ k = 5) (h6 : p6 ↔ k = 6) (h7 : p7 ↔ k = 7) (h8 : p8 ↔ k = 8) (h9 : p9 ↔ k = 9) (h10 : p10 ↔ k = 10)
    (b : (k : ℕ) → k < 11 → Prog (TpuEff nD τ sig (Elt F) Λ₀ .tc) PUnit) :
    (do
      let _ ← (do
        if p0 then b 0 (by decide) else pure ⟨⟩
        if p1 then b 1 (by decide) else pure ⟨⟩
        if p2 then b 2 (by decide) else pure ⟨⟩
        if p3 then b 3 (by decide) else pure ⟨⟩
        if p4 then b 4 (by decide) else pure ⟨⟩
        if p5 then b 5 (by decide) else pure ⟨⟩
        if p6 then b 6 (by decide) else pure ⟨⟩
        if p7 then b 7 (by decide) else pure ⟨⟩
        if p8 then b 8 (by decide) else pure ⟨⟩
        pure r : Prog (TpuEff nD τ sig (Elt F) Λ₀ .tc) ρ)
      if p9 then b 9 (by decide) else pure ⟨⟩
      if p10 then b 10 (by decide) else pure ⟨⟩) = b k hk := by
  match k, hk with
  | 0, _ => simp [h0, h1, h2, h3, h4, h5, h6, h7, h8, h9, h10]; exact Prog.bind_pure _
  | 1, _ => simp [h0, h1, h2, h3, h4, h5, h6, h7, h8, h9, h10]; exact Prog.bind_pure _
  | 2, _ => simp [h0, h1, h2, h3, h4, h5, h6, h7, h8, h9, h10]; exact Prog.bind_pure _
  | 3, _ => simp [h0, h1, h2, h3, h4, h5, h6, h7, h8, h9, h10]; exact Prog.bind_pure _
  | 4, _ => simp [h0, h1, h2, h3, h4, h5, h6, h7, h8, h9, h10]; exact Prog.bind_pure _
  | 5, _ => simp [h0, h1, h2, h3, h4, h5, h6, h7, h8, h9, h10]; exact Prog.bind_pure _
  | 6, _ => simp [h0, h1, h2, h3, h4, h5, h6, h7, h8, h9, h10]; exact Prog.bind_pure _
  | 7, _ => simp [h0, h1, h2, h3, h4, h5, h6, h7, h8, h9, h10]; exact Prog.bind_pure _
  | 8, _ => simp [h0, h1, h2, h3, h4, h5, h6, h7, h8, h9, h10]; exact Prog.bind_pure _
  | 9, _ => simp [h0, h1, h2, h3, h4, h5, h6, h7, h8, h9, h10]; exact Prog.bind_pure _
  | 10, _ => simp [h0, h1, h2, h3, h4, h5, h6, h7, h8, h9, h10]

set_option maxHeartbeats 4000000 in
/-- At a point the body is the walk of its column block. -/
theorem cc6_gtg_at (t : Fin cfg6.N) (arg2 : Memref sig .tc .vmem S1x2688x2816 .bf16) (harg2 : arg2.IsWhole) (arg3 : Memref sig .tc .vmem S1x256x2816 .f32) (harg3 : arg3.IsWhole)
    (arg4 : Memref sig .tc .vmem S1x256x2816 .f32) (harg4 : arg4.IsWhole) (arg5 : Memref sig .tc .vmem S55x256x256 .f32) (harg5 : arg5.IsWhole) :
    cc6_gtg (F := F) (grid6.coords t) arg2 harg2 arg3 harg3 arg4 harg4 arg5 harg5
      = gtgBranch arg2 arg3 arg4 arg5 (t.val % 11) (gtg_row_lt t) := by
  rw [cc6_gtg_eq]
  obtain ⟨r, hr⟩ := k6_part55_eq (F := F) (grid6.coords t) arg2 harg2 arg3 harg3 arg4 harg4 arg5 harg5
  rw [hr]
  exact gtg_pick r (t.val % 11) (gtg_row_lt t) _ _ _ _ _ _ _ _ _ _ _ (gtg_hcond0 t) (gtg_hcond1 t) (gtg_hcond2 t) (gtg_hcond3 t) (gtg_hcond4 t) (gtg_hcond5 t) (gtg_hcond6 t) (gtg_hcond7 t) (gtg_hcond8 t) (gtg_hcond9 t) (gtg_hcond10 t)
    (fun k hk => gtgBranch arg2 arg3 arg4 arg5 k hk)

/-! ## What a point leaves in the output's block -/

/-- Column block `k` of the result, tile by tile. -/
def outGtg (x0 : Vec F S1x2688x2816 .bf16) (x1 : Vec F S1x256x2816 .f32) (k : ℕ) (hk : k < 11) : Vec F S1x256x2816 .f32 := fun y =>
  gtgVal x0 x1 k ((y 2).val / 256) hk (Nat.div_lt_of_lt_mul (y 2).isLt)
    (fun a => match a with
      | ⟨0, _⟩ => y 0
      | ⟨1, _⟩ => y 1
      | ⟨2, _⟩ => (⟨(y 2).val % 256, Nat.mod_lt _ (by decide)⟩ : Fin 256))

/-- Once all eleven tiles are written the block is the column block of the result. -/
theorem GtgOut.whole {x0 : Vec F S1x2688x2816 .bf16} {x1 : Vec F S1x256x2816 .f32} {k : ℕ} {hk : k < 11} {o : Vec F S1x256x2816 .f32}
    (h : GtgOut x0 x1 k 11 hk o) : o = outGtg x0 x1 k hk := by
  funext y
  have hj : (y 2).val / 256 < 11 := Nat.div_lt_of_lt_mul (y 2).isLt
  have e := congrFun (h ((y 2).val / 256) hj hj) (fun a => match a with
      | ⟨0, _⟩ => y 0
      | ⟨1, _⟩ => y 1
      | ⟨2, _⟩ => (⟨(y 2).val % 256, Nat.mod_lt _ (by decide)⟩ : Fin 256))
  refine Eq.trans (congrArg o ?_) e
  funext a
  refine Fin.ext ?_
  match a with
  | ⟨0, _⟩ => show (y 0).val = 0 + 1 * (y 0).val; omega
  | ⟨1, _⟩ => show (y 1).val = 0 + 1 * (y 1).val; omega
  | ⟨2, _⟩ => show (y 2).val = 256 * ((y 2).val / 256) + 1 * ((y 2).val % 256); omega

def outAt6_2 (c : Dev nD) (t : Fin cfg6.N) : Vec F S1x256x2816 .f32 :=
  outGtg (iblk6 V c 0 t) (iblk6 V c 1 t) (t.val % 11) (gtg_row_lt t)

/-! ## What the scratch keeps between the points -/

abbrev scM6_0 : Memref sig .tc .vmem S55x256x256 .f32 := Memref.whole cc6_scratch0

/-- Before point `t`: within a batch, the products of the batch's earlier column blocks. -/
def scr6 (c : Dev nD) (t : ℕ) (s : Vec F S55x256x256 .f32) : Prop :=
  t % 11 ≠ 0 → ∀ u : Fin cfg6.N, u.val / 11 = t / 11 → GtgScr (iblk6 V c 0 u) (t % 11) 0 s

def Φ6 (c : Dev nD) (t : ℕ) : sProp 𝕄 :=
  iprop(((∃ s, ⌜scr6 V c t s⌝ ∗ owns (c : Thread nD τ) scM6_0 fullShare s) ∗ Pipeline.scopedRestBut (Ix := Unit) (Name := ℕ) (U := UR sig nD τ) (Lvl := ℕ) (Val := Elt F) spec6 c [cc6_scratch0]) ∗ ∃ r, prngReg c r)

theorem PhiA6_eq (c : Dev nD) : (Pipeline.ΦA spec6 c : sProp 𝕄)
    = iprop(((∃ s, owns (c : Thread nD τ) scM6_0 fullShare s) ∗ Pipeline.scopedRestBut (Ix := Unit) (Name := ℕ) (U := UR sig nD τ) (Lvl := ℕ) (Val := Elt F) spec6 c [cc6_scratch0]) ∗ ∃ r, prngReg c r) := by
  unfold Pipeline.ΦA; rw [scopedRest6_split]; simp only [scM6_0, owns_whole]; try rfl

theorem hin6 (c : Dev nD) : (Pipeline.ΦA spec6 c : sProp 𝕄) ⊢ Φ6 V c 0 := by
  rw [PhiA6_eq]; unfold Φ6
  iintro ⟨⟨⟨%s, Hs⟩, Hr⟩, Hp⟩
  isplitr [Hp]; swap; · iexact Hp
  isplitr [Hr]; swap; · iexact Hr
  iexists s; isplitr; swap; · iexact Hs
  ipureintro; intro h; exact absurd rfl h

theorem hout6 (c : Dev nD) (t : ℕ) : Φ6 V c t ⊢ (Pipeline.ΦA spec6 c : sProp 𝕄) := by
  rw [PhiA6_eq]; unfold Φ6
  iintro ⟨⟨⟨%s, %h, Hs⟩, Hr⟩, Hp⟩
  isplitr [Hp]; swap; · iexact Hp
  isplitr [Hr]; swap; · iexact Hr
  iexists s; iexact Hs

/-- The proof data of this call on core `c`: the arrays as the call finds them; after the body at point `t` each input's
    buffer at its block and the output's at `outAt6_2`. -/
def dat6 (c : Dev nD) : Dat τ (Elt F) Unit ℕ (UR sig nD τ) ℕ cfg6 c where
  A w := V c (Proc.devRef .tc (Pipeline.arrRef spec6 w))
  after w t := match w with
    | ⟨0, _⟩ => iblk6 V c 0 t
    | ⟨1, _⟩ => iblk6 V c 1 t
    | ⟨2, _⟩ => outAt6_2 V c t
  Φ t := Φ6 V c t.val
  q _ := fullShare
  owed _ := 0

theorem A_eq6 (c : Dev nD) (w : Fin cfg6.W) : (dat6 V c).A w = V c (Proc.devRef .tc (Pipeline.arrRef spec6 w)) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = outAt6_2 V c t := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- The points of a batch see one block of the first window: the batch's whole matrix. -/
theorem iblk6_batch (c : Dev nD) (u t : Fin cfg6.N) (h : u.val / 11 = t.val / 11) :
    (iblk6 V c 0 u : Vec F S1x2688x2816 .bf16) = iblk6 V c 0 t := by
  have hi : (cfg6.win 0).index u = (cfg6.win 0).index t := by
    have key : ∀ u t : Fin cfg6.N, u.val / 11 = t.val / 11 → (cfg6.win 0).index u = (cfg6.win 0).index t := by decide +kernel
    exact key u t h
  exact (show (iblk6 V c 0 u : Vec F S1x2688x2816 .bf16) = (dat6 V c).fetched 0 u (iblk6 V c 0 t) by
      unfold Dat.fetched Dat.blockOf iblk6; rw [A_eq6]; rfl).trans
    (((dat6 V c).fetched_congr 0 hi rfl (iblk6 V c 0 t)).trans
      (by unfold Dat.fetched Dat.blockOf iblk6; rw [A_eq6]; rfl))

theorem scr6_enter (c : Dev nD) (t : Fin cfg6.N) (s : Vec F S55x256x256 .f32) (h : scr6 V c t.val s) :
    GtgScr (iblk6 V c 0 t) (t.val % 11) 0 s := by
  by_cases h0 : t.val % 11 = 0
  · intro a b hb hab hc; exfalso; omega
  · exact h h0 t rfl

theorem scr6_leave (c : Dev nD) (t : Fin cfg6.N) (s : Vec F S55x256x256 .f32) (h : GtgScr (iblk6 V c 0 t) (t.val % 11) 11 s) :
    scr6 V c (t.val + 1) s := by
  intro h0 u hu
  rw [iblk6_batch V c u t (by omega)]
  intro a b hb hab hc
  exact h a b hb hab (by omega)

/-! ## The body at a grid point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t))

set_option maxHeartbeats 800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = Φ6 V c (t.val + 1) from rfl, show (dat6 V c).Φ t.castSucc = Φ6 V c t.val from rfl,
    show (dat6 V c).owesAt () t.succ = (dat6 V c).owesAt () t.castSucc from rfl,
    after6_0, after6_1, after6_2, cc6_gtg_at]
  unfold outAt6_2 Φ6
  iintro ⟨⟨⟨⟨%s, %hs, Hs⟩, Hr⟩, Hp⟩, Ho, ⟨%d0, H0⟩, ⟨%d1, H1⟩, ⟨%d2, H2⟩⟩
  iapply (gtgBranch_wp c (ms6_0 t) (hs6_0 t) (ms6_1 t) (hs6_1 t) (ms6_2 t) (hs6_2 t) scM6_0 (Memref.isWhole_whole _)
    (iblk6 V c 0 t) (iblk6 V c 1 t) (t.val % 11) (gtg_row_lt t) Set.univ _)
  unfold gtgHeld
  isplitl [H0 H1 H2 Hs]
  · isplitl [H0]; · iexact H0
    isplitl [H1]; · iexact H1
    isplitl [H2]
    · iexists _; isplitr; swap; · iexact H2
      ipureintro; intro j hj h; exact absurd h (Nat.not_lt_zero _)
    iexists s; isplitr; swap; · iexact Hs
    ipureintro; exact scr6_enter V c t s hs
  iintro ⟨H0, H1, ⟨%o, %ho, H2⟩, ⟨%s', %hs', Hs⟩⟩
  isplitl [Hs Hr Hp]
  · isplitr [Hp]; swap; · iexact Hp
    isplitr [Hr]; swap; · iexact Hr
    iexists s'; isplitr; swap; · iexact Hs
    ipureintro; exact scr6_leave V c t s' hs'
  isplitl [Ho]; · iexact Ho
  isplitl [H0]; · iexact H0
  isplitl [H1]; · iexact H1
  rw [← ho.whole]
  iexact H2

/-- The output is written at every point. -/
theorem liveAt6_2 (t : Fin cfg6.N) : cfg6.idle 2 (cfg6.grid.coords t) = false := by
  have hk := gtg_row_lt t
  refine Bool.eq_false_iff.mpr fun h => ?_
  have h' : (!(k6_cond1 (grid6.coords t) == 1#1) && !(k6_cond2 (grid6.coords t) == 1#1) && !(k6_cond3 (grid6.coords t) == 1#1) && !(k6_cond4 (grid6.coords t) == 1#1) && !(k6_cond5 (grid6.coords t) == 1#1) && !(k6_cond6 (grid6.coords t) == 1#1) && !(k6_cond7 (grid6.coords t) == 1#1) && !(k6_cond8 (grid6.coords t) == 1#1) && !(k6_cond9 (grid6.coords t) == 1#1) && !(k6_cond10 (grid6.coords t) == 1#1) && !(k6_cond11 (grid6.coords t) == 1#1)) = true := h
  simp only [Bool.and_eq_true, Bool.not_eq_true', beq_eq_false_iff_ne, ne_eq, gtg_hcond0, gtg_hcond1, gtg_hcond2, gtg_hcond3, gtg_hcond4, gtg_hcond5, gtg_hcond6, gtg_hcond7, gtg_hcond8, gtg_hcond9, gtg_hcond10] at h'
  omega

theorem defs₀_row6 (t : Fin cfg6.N) :
    defs₀ (F := F) .tc cfg6.body (cfg6.bodyArgs t (cfg6.slots t)) = bodyAt6 t := by
  unfold defs₀; rw [Defs.onTc_tc]

/-- The body meets the pipeline's obligation at every point. -/
theorem body_obligation6 (c : Dev nD) : BodyObligation (dat6 (F := F) V c) (defs₀ (F := F)) Variants.none () Set.univ := fun t => by
  rw [bigSep_W6, bigSep_W6, defs₀_row6]
  refine triple_restated (sound_body6 V c t) rfl .rfl fun _ => ?_
  rw [liveAt6_2 t]
  exact .rfl

end Cert.KernelIdeal.Soap

end
-- ==== Proof.Calls.lean ====
/-
The seven calls of the program, and what the run leaves in the buffers they do not write: in particular every argument
ends as it began.
-/
module

public import proofs.«01_k».proof.Proof.Run
public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.Region5
public import proofs.«01_k».proof.Proof.Region6

@[expose] public section

set_option maxRecDepth 16384

noncomputable section

namespace Cert.KernelIdeal.Soap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

variable (F) in
/-- The seven calls. -/
def calls : (p : Fin 7) → Call F p
  | 0 => { dat := dat0, arr := A_eq0, body := fun V c => (body_obligation0 V c).loose, owed := fun _ _ _ => rfl, recd := fun _ _ => rfl, share := fun V c => (dat0 V c).share_full fun _ => rfl, hin := fun _ _ => BI.Entails.refl _, hout := fun _ _ => BI.Entails.refl _ }
  | 1 => { dat := dat1, arr := A_eq1, body := fun V c => (body_obligation1 V c).loose, owed := fun _ _ _ => rfl, recd := fun _ _ => rfl, share := fun V c => (dat1 V c).share_full fun _ => rfl, hin := fun _ _ => BI.Entails.refl _, hout := fun _ _ => BI.Entails.refl _ }
  | 2 => { dat := dat2, arr := A_eq2, body := fun V c => (body_obligation2 V c).loose, owed := fun _ _ _ => rfl, recd := fun _ _ => rfl, share := fun V c => (dat2 V c).share_full fun _ => rfl, hin := fun _ _ => BI.Entails.refl _, hout := fun _ _ => BI.Entails.refl _ }
  | 3 => { dat := dat3, arr := A_eq3, body := fun V c => (body_obligation3 V c).loose, owed := fun _ _ _ => rfl, recd := fun _ _ => rfl, share := fun V c => (dat3 V c).share_full fun _ => rfl, hin := fun _ _ => BI.Entails.refl _, hout := fun _ _ => BI.Entails.refl _ }
  | 4 => { dat := dat4, arr := A_eq4, body := fun V c => (body_obligation4 V c).loose, owed := fun _ _ _ => rfl, recd := fun _ _ => rfl, share := fun V c => (dat4 V c).share_full fun _ => rfl, hin := fun _ _ => BI.Entails.refl _, hout := fun _ _ => BI.Entails.refl _ }
  | 5 => { dat := dat5, arr := A_eq5, body := fun V c => (body_obligation5 V c).loose, owed := fun _ _ _ => rfl, recd := fun _ _ => rfl, share := fun V c => (dat5 V c).share_full fun _ => rfl, hin := hin5, hout := fun V c => hout5 V c _ }
  | 6 => { dat := dat6, arr := A_eq6, body := fun V c => (body_obligation6 V c).loose, owed := fun _ _ _ => rfl, recd := fun _ _ => rfl, share := fun V c => (dat6 V c).share_full fun _ => rfl, hin := hin6, hout := fun V c => hout6 V c _ }

variable (m : (ℓ : Loc nD τ sig) → Buf (Elt F) ℓ) (ρ : Dev nD → PrngReg)

/-- The buffers of core `c` before call `k`. -/
abbrev Wk (k : ℕ) (c : Dev nD) : Valuation τ sig (Elt F) := W (calls F) m k c

/-- Call `p` does not write `r`. -/
abbrev Spares (p : Fin 7) (r : Ref sig .tc) : Prop :=
  ∀ w : Fin (cfgs p).W, Pipeline.arrRef (cfgs p).spec w = r → ((cfgs p).win w).isOut = false

/-- A buffer the call does not write is as before it. -/
theorem Wk_keep (p : Fin 7) (c : Dev nD) (r : Ref sig .tc) (h : Spares p r) :
    Wk m (p.val + 1) c (Proc.devRef .tc r) = Wk m p.val c (Proc.devRef .tc r) := by
  unfold Wk; rw [W_succ]
  exact Pipeline.afterRegion_keeps _ _ (arr_inj p) ((calls F p).arr _ c) r h

/-- A window's array after the call is what the call leaves there. -/
theorem Wk_arr (p : Fin 7) (c : Dev nD) (w : Fin (cfgs p).W) :
    Wk m (p.val + 1) c (Proc.devRef .tc (Pipeline.arrRef (cfgs p).spec w)) = ((calls F p).dat (Wk m p.val) c).arrAt w (cfgs p).N := by
  unfold Wk; rw [W_succ]
  exact Pipeline.afterRegion_arr _ _ (arr_inj p) w

/-- A buffer nothing writes holds at every stage what the memory held. -/
theorem Wk_input (c : Dev nD) (r : Ref sig .tc) (h0 : r ∉ hostOps0_W) (h : ∀ p, Spares p r) :
    ∀ k, k ≤ 7 → Wk m k c (Proc.devRef .tc r) = m (c, Proc.devRef .tc r)
  | 0, _ => V1_of m c r h0
  | k + 1, hk => (Wk_keep m ⟨k, hk⟩ c r (h ⟨k, hk⟩)).trans (Wk_input c r h0 h k (Nat.le_of_succ_le hk))

theorem spares_arg0 : ∀ p, Spares p main_arg0 := by decide
theorem spares_arg1 : ∀ p, Spares p main_arg1 := by decide
theorem spares_arg2 : ∀ p, Spares p main_arg2 := by decide
theorem spares_arg3 : ∀ p, Spares p main_arg3 := by decide
theorem spares_arg4 : ∀ p, Spares p main_arg4 := by decide
theorem spares_arg5 : ∀ p, Spares p main_arg5 := by decide
theorem spares_arg6 : ∀ p, Spares p main_arg6 := by decide
theorem spares_arg7 : ∀ p, Spares p main_arg7 := by decide
theorem spares_arg8 : ∀ p, Spares p main_arg8 := by decide
theorem spares_arg9 : ∀ p, Spares p main_arg9 := by decide
theorem spares_arg10 : ∀ p, Spares p main_arg10 := by decide

theorem mem_ucRefs {r : Ref sig .tc} (h : ¬ r.isScoped) : (Proc.devRef .tc r : DevRef τ sig) ∈ Pipeline.ucRefs τ sig :=
  Finset.mem_filter.mpr ⟨StableHlo.devRef_mem_tcRefs r, by simpa using h⟩

/-- The arguments of core `c` at the end are the memory's. -/
def ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)

theorem argsKept_of {mem : (ℓ : Loc nD τ sig) → Buf (Elt F) ℓ} {c : Dev nD}
    (h : ∀ b ∈ Pipeline.ucRefs τ sig, mem (c, b) = Wk m 7 c b) : ArgsKept m mem c :=
  ⟨(h _ (mem_ucRefs (by decide))).trans (Wk_input m c main_arg0 (by decide) spares_arg0 7 le_rfl),
   (h _ (mem_ucRefs (by decide))).trans (Wk_input m c main_arg1 (by decide) spares_arg1 7 le_rfl),
   (h _ (mem_ucRefs (by decide))).trans (Wk_input m c main_arg2 (by decide) spares_arg2 7 le_rfl),
   (h _ (mem_ucRefs (by decide))).trans (Wk_input m c main_arg3 (by decide) spares_arg3 7 le_rfl),
   (h _ (mem_ucRefs (by decide))).trans (Wk_input m c main_arg4 (by decide) spares_arg4 7 le_rfl),
   (h _ (mem_ucRefs (by decide))).trans (Wk_input m c main_arg5 (by decide) spares_arg5 7 le_rfl),
   (h _ (mem_ucRefs (by decide))).trans (Wk_input m c main_arg6 (by decide) spares_arg6 7 le_rfl),
   (h _ (mem_ucRefs (by decide))).trans (Wk_input m c main_arg7 (by decide) spares_arg7 7 le_rfl),
   (h _ (mem_ucRefs (by decide))).trans (Wk_input m c main_arg8 (by decide) spares_arg8 7 le_rfl),
   (h _ (mem_ucRefs (by decide))).trans (Wk_input m c main_arg9 (by decide) spares_arg9 7 le_rfl),
   (h _ (mem_ucRefs (by decide))).trans (Wk_input m c main_arg10 (by decide) spares_arg10 7 le_rfl)⟩

/-- The program ends with its arguments unchanged and every counter at zero. -/
theorem frame_run : θ_run defs (onTc (τ := τ) (main (F := F))) ⟨m, fun _ => 0, ρ⟩
    (fun r => (∀ c : Dev nD, ArgsKept m r.2.mem c) ∧ r.2.sem = fun _ => 0) :=
  (θ_run defs (onTc (τ := τ) (main (F := F))) ⟨m, fun _ => 0, ρ⟩).mono (fun _ h => ⟨fun c => argsKept_of m (h.1 c), h.2⟩) (run (calls F) m ρ)

end Cert.KernelIdeal.Soap

end
-- ==== Proof.Frames.lean ====
/-
The frames: each program ends with its arguments unchanged and every counter at zero. The kernel and its idealized
form are one program at two readings of the numbers, and the run is proved for any reading.
-/
module

public import proofs.«01_k».proof.Defs
public import proofs.«01_k».proof.Proof.Calls
public import proofs.«01_k».proof.Proof.Gen.Kernel.Launch
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe Idealize.SL.Sem

theorem frameIdeal : @Cert.quiescent_KernelIdeal Cert.KernelIdeal.Gen.facts := fun m g _ =>
  Cert.KernelIdeal.Soap.frame_run m g

theorem frameReference : @Cert.quiescent_ReferenceIdeal Cert.ReferenceIdeal.Gen.facts := fun m g _ =>
  (θ_run Cert.ReferenceIdeal.defs _ _).mono
    (fun r h => ⟨fun c => (h c).2.2.2.2.2.2.2.2, sem_eq_zero_of_no_sems rfl r.2⟩) (Cert.ReferenceIdeal.Value.run m g)

end Cert.Proof

end
-- ==== Proof.FrameKernel.lean ====
/-
The frame of the kernel as it is: it is the program of which the run is proved, read at the machine's numbers.
-/
module

public import proofs.«01_k».proof.Proof.Frames

@[expose] public section

set_option maxRecDepth 16384

noncomputable section

namespace Cert.Proof

open Idealize.ShloMosaic Idealize.ShloMosaic.TcCoe Idealize.SL.Sem

set_option maxHeartbeats 8000000 in
theorem sameMain : @Cert.Kernel.main Bits _ Cert.Kernel.Gen.facts = @Cert.KernelIdeal.main Bits _ Cert.KernelIdeal.Gen.facts := rfl

set_option maxHeartbeats 8000000 in
theorem sameBody0 : @Cert.Kernel.cc0_rot1g Bits _ Cert.Kernel.Gen.facts = @Cert.KernelIdeal.cc0_rot1g Bits _ Cert.KernelIdeal.Gen.facts := rfl

set_option maxHeartbeats 8000000 in
theorem sameBody1 : @Cert.Kernel.cc1_rot1m Bits _ Cert.Kernel.Gen.facts = @Cert.KernelIdeal.cc1_rot1m Bits _ Cert.KernelIdeal.Gen.facts := rfl

set_option maxHeartbeats 8000000 in
theorem sameBody2 : @Cert.Kernel.cc2_rot2 Bits _ Cert.Kernel.Gen.facts = @Cert.KernelIdeal.cc2_rot2 Bits _ Cert.KernelIdeal.Gen.facts := rfl

set_option maxHeartbeats 8000000 in
theorem sameBody3 : @Cert.Kernel.cc3_rot3 Bits _ Cert.Kernel.Gen.facts = @Cert.KernelIdeal.cc3_rot3 Bits _ Cert.KernelIdeal.Gen.facts := rfl

set_option maxHeartbeats 8000000 in
theorem sameBody4 : @Cert.Kernel.cc4_rot4 Bits _ Cert.Kernel.Gen.facts = @Cert.KernelIdeal.cc4_rot4 Bits _ Cert.KernelIdeal.Gen.facts := rfl

set_option maxHeartbeats 8000000 in
theorem sameBody5 : @Cert.Kernel.cc5_ggt Bits _ Cert.Kernel.Gen.facts = @Cert.KernelIdeal.cc5_ggt Bits _ Cert.KernelIdeal.Gen.facts := rfl

set_option maxHeartbeats 8000000 in
theorem sameBody6 : @Cert.Kernel.cc6_gtg Bits _ Cert.Kernel.Gen.facts = @Cert.KernelIdeal.cc6_gtg Bits _ Cert.KernelIdeal.Gen.facts := rfl

set_option maxHeartbeats 8000000 in
theorem sameBodies : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | 0, (t, s) => rfl
  | 1, (t, s) => rfl
  | 2, (t, s) => rfl
  | 3, (t, s) => rfl
  | 4, (t, s) => rfl
  | 5, (t, s) => rfl
  | 6, (t, s) => rfl

set_option maxHeartbeats 8000000 in
theorem sameDefs : @Cert.Kernel.defs Bits _ Cert.Kernel.Gen.facts = @Cert.KernelIdeal.defs Bits _ Cert.KernelIdeal.Gen.facts := by
  unfold Cert.Kernel.defs Cert.KernelIdeal.defs
  rw [sameBodies]
  rfl

set_option maxHeartbeats 8000000 in
theorem frameKernel : @Cert.quiescent_Kernel Cert.Kernel.Gen.facts := fun m g _ => by
  rw [sameMain, sameDefs]
  exact Cert.KernelIdeal.Soap.frame_run (F := Bits) m g

end Cert.Proof

end
-- ==== Proof.Formulas.lean ====
/-
The optimizer's mathematics, entry by entry, over whole arrays of extended reals: what both programs compute.
-/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.KernelIdeal.Soap

open Cert.KernelIdeal
open Idealize.ShloMosaic Idealize.ShloMosaic.TcCoe Idealize.SL.Sem

/-! ## Scalars -/

/-- The decay of every moving average, 0.95 at single precision. -/
def beta : EReal := Ideal.ofBits .f32 0x3F733333#32
/-- One minus the decay, as the programs print it. -/
def rest : EReal := Ideal.ofBits .f32 0x3D4CCCD0#32
/-- The largest entry of a block of 256. -/
def blockMax (x : Fin 256 → EReal) : EReal := Finset.univ.fold max (Ideal.ofBits .f32 0xFF800000#32) x
/-- A block's scale: its largest entry over 127, or 1 when that is 0. -/
def scaleOf (a : EReal) : EReal := if a = 0 then 1 else Ideal.div a (Ideal.ofBits .f32 0x42FE0000#32)
/-- An entry's quotient by the scale, rounded to the nearest integer (ties to even) and clipped to `lo … 127`. -/
def clipped (lo : BitVec 32) (a x : EReal) : EReal :=
  min ((((127#32 : BitVec 32).toInt : ℝ)) : EReal)
    (max (((lo.toInt : ℝ)) : EReal) (Ideal.liftRound Ideal.roundHalfEven (Ideal.div x (scaleOf a))))
/-- Its code. -/
def codeOf (lo : BitVec 32) (a x : EReal) : BitVec 8 := Ideal.fptosi 8 (clipped lo a x)
/-- The absolute value. -/
def mag (x : EReal) : EReal := FloatOps.absf (F := Ideal) (φ := .f32) x

/-! ## Moments -/

/-- A quantised moment read back: code times its block's scale. -/
def dequant (q : Vec Ideal S3x2688x2816 .i8) (s : Vec Ideal S3x2688x11 .f32) (j : S3x2688x2816.Idx) : EReal :=
  (((q j).toInt : ℝ) : EReal) * s (ix3 (j 0) (j 1) (⟨(j 2 : ℕ) / 256, by have := (j 2).isLt; simp at this; omega⟩ : Fin 11))

/-- The new first moment. -/
def mNew (q : Vec Ideal S3x2688x2816 .i8) (s : Vec Ideal S3x2688x11 .f32) (g : Vec Ideal S3x2688x2816 .bf16) :
    Vec Ideal S3x2688x2816 .f32 := fun j => beta * dequant q s j + rest * g j

/-- The new second moment, of the gradient `g` in the rotated basis. -/
def vNew (q : Vec Ideal S3x2688x2816 .i8) (s : Vec Ideal S3x2688x11 .f32) (g : Vec Ideal S3x2688x2816 .f32) :
    Vec Ideal S3x2688x2816 .f32 := fun j => beta * dequant q s j + rest * g j * g j

/-- Entry `k` of block `b` of row `(p, r)`. -/
def blockAt (x : Vec Ideal S3x2688x2816 .f32) (p : Fin 3) (r : Fin 2688) (b : Fin 11) (k : Fin 256) : EReal :=
  x (ix3 p r (⟨(b : ℕ) * 256 + k, by omega⟩ : Fin 2816))

/-- The block a column lies in. -/
def blockOf (j : S3x2688x2816.Idx) : Fin 11 := ⟨(j 2 : ℕ) / 256, by have := (j 2).isLt; simp at this; omega⟩

/-- The scales of the quantised first moment. -/
def mScale (x : Vec Ideal S3x2688x2816 .f32) : Vec Ideal S3x2688x11 .f32 := fun j =>
  scaleOf (blockMax fun k => mag (blockAt x (j 0) (j 1) (j 2) k))
/-- Its codes. -/
def mCode (x : Vec Ideal S3x2688x2816 .f32) : Vec Ideal S3x2688x2816 .i8 := fun j =>
  codeOf 4294967169#32 (blockMax fun k => mag (blockAt x (j 0) (j 1) (blockOf j) k)) (x j)
/-- The scales of the quantised second moment. -/
def vScale (x : Vec Ideal S3x2688x2816 .f32) : Vec Ideal S3x2688x11 .f32 := fun j =>
  scaleOf (blockMax fun k => blockAt x (j 0) (j 1) (j 2) k)
/-- Its codes. -/
def vCode (x : Vec Ideal S3x2688x2816 .f32) : Vec Ideal S3x2688x2816 .i8 := fun j =>
  codeOf 0#32 (blockMax fun k => blockAt x (j 0) (j 1) (blockOf j) k) (x j)

/-! ## Rotations -/

/-- `qᵀ · x`, batch by batch. -/
def intoL (q : Vec Ideal S3x2688x2688 .bf16) (x : Vec Ideal S3x2688x2816 .bf16) : Vec Ideal S3x2688x2816 .bf16 := fun j =>
  ∑ k : Fin 2688, q (ix3 (j 0) k (j 1)) * x (ix3 (j 0) k (j 2))
/-- `x · q`. -/
def intoR (x : Vec Ideal S3x2688x2816 .bf16) (q : Vec Ideal S3x2816x2816 .bf16) : Vec Ideal S3x2688x2816 .f32 := fun j =>
  ∑ k : Fin 2816, x (ix3 (j 0) (j 1) k) * q (ix3 (j 0) k (j 2))
/-- `q · x`. -/
def backL (q : Vec Ideal S3x2688x2688 .bf16) (x : Vec Ideal S3x2688x2816 .bf16) : Vec Ideal S3x2688x2816 .bf16 := fun j =>
  ∑ k : Fin 2688, q (ix3 (j 0) (j 1) k) * x (ix3 (j 0) k (j 2))
/-- `x · qᵀ`. -/
def backR (x : Vec Ideal S3x2688x2816 .bf16) (q : Vec Ideal S3x2816x2816 .bf16) : Vec Ideal S3x2688x2816 .f32 := fun j =>
  ∑ k : Fin 2816, x (ix3 (j 0) (j 1) k) * q (ix3 (j 0) (j 2) k)

/-- The direction in the rotated basis: first moment over the root of the second. -/
def direction (m v : Vec Ideal S3x2688x2816 .f32) : Vec Ideal S3x2688x2816 .bf16 := fun j =>
  Ideal.div (m j) (Ideal.sqrt (v j) + Ideal.ofBits .f32 0x322BCC77#32)

/-! ## The step and the statistics -/

/-- The change of the weights: minus the step size times the direction. -/
def change (s : Vec Ideal S3 .f32) (u : Vec Ideal S3x2688x2816 .f32) : Vec Ideal S3x2688x2816 .f32 := fun j =>
  -(s (ix1 (j 0))) * u j
/-- The new weights. -/
def moved (w d : Vec Ideal S3x2688x2816 .f32) : Vec Ideal S3x2688x2816 .f32 := fun j => w j + d j

/-- The left statistic: the moving average of `g · gᵀ`. -/
def lNew (l : Vec Ideal S3x2688x2688 .f32) (g : Vec Ideal S3x2688x2816 .bf16) : Vec Ideal S3x2688x2688 .f32 := fun j =>
  beta * l j + rest * ∑ k : Fin 2816, g (ix3 (j 0) (j 1) k) * g (ix3 (j 0) (j 2) k)
/-- The right statistic: the moving average of `gᵀ · g`. -/
def rNew (r : Vec Ideal S3x2816x2816 .f32) (g : Vec Ideal S3x2688x2816 .bf16) : Vec Ideal S3x2816x2816 .f32 := fun j =>
  beta * r j + rest * ∑ k : Fin 2688, g (ix3 (j 0) k (j 1)) * g (ix3 (j 0) k (j 2))

/-! ## Codes through 32 bits -/

theorem clipped_bounds {lo : BitVec 32} (hlo : lo.toInt ≤ 127) (a x : EReal) :
    ((lo.toInt : ℝ) : EReal) ≤ clipped lo a x ∧ clipped lo a x ≤ ((127 : ℝ) : EReal) := by
  unfold clipped
  have h127 : ((127#32 : BitVec 32).toInt : ℝ) = 127 := by
    rw [show (127#32 : BitVec 32).toInt = 127 by decide]; norm_num
  rw [h127]
  refine ⟨le_min ?_ (le_max_left _ _), min_le_left _ _⟩
  exact EReal.coe_le_coe_iff.mpr (by exact_mod_cast hlo)

/-- A number between -127 and 127 has the same 8 bits, converted directly or through 32 bits. -/
theorem narrow_code {y : EReal} (h0 : ((-127 : ℝ) : EReal) ≤ y) (h1 : y ≤ ((127 : ℝ) : EReal)) :
    (Ideal.fptosi 32 y).setWidth 8 = Ideal.fptosi 8 y := by
  induction y using EReal.rec with
  | bot => exact absurd (le_bot_iff.mp h0) (EReal.coe_ne_bot _)
  | top => exact absurd (top_le_iff.mp h1) (EReal.coe_ne_top _)
  | coe r =>
    have h0 : (-127 : ℝ) ≤ r := EReal.coe_le_coe_iff.mp h0
    have h1 : r ≤ (127 : ℝ) := EReal.coe_le_coe_iff.mp h1
    have hz : ∃ z : ℤ, (if 0 ≤ r then ⌊r⌋ else ⌈r⌉) = z ∧ -127 ≤ z ∧ z ≤ 127 := by
      split
      · rename_i hr
        refine ⟨_, rfl, ?_, ?_⟩
        · have := Int.floor_nonneg.mpr hr; omega
        · exact Int.floor_le_iff.mpr (by push_cast; linarith)
      · rename_i hr
        refine ⟨_, rfl, ?_, ?_⟩
        · exact Int.le_ceil_iff.mpr (by push_cast; linarith)
        · have : ⌈r⌉ ≤ 0 := Int.ceil_le.mpr (by push_cast; linarith)
          omega
    obtain ⟨z, hz, z0, z1⟩ := hz
    have e : ∀ w : ℕ, (8 ≤ w) → Ideal.fptosi w (r : EReal) = BitVec.ofInt w z := by
      intro w hw
      show BitVec.ofInt w (max _ (min _ (if 0 ≤ r then ⌊r⌋ else ⌈r⌉))) = _
      rw [hz]
      have : (128 : ℕ) ≤ 2 ^ (w - 1) := le_trans (by norm_num : 128 ≤ 2 ^ 7) (Nat.pow_le_pow_right (by norm_num) (by omega))
      congr 1
      omega
    rw [e 32 (by norm_num), e 8 (by norm_num)]
    have : ∀ n : ℕ, n ≤ 254 → (BitVec.ofInt 32 ((n : ℤ) - 127)).setWidth 8 = BitVec.ofInt 8 ((n : ℤ) - 127) := by decide +kernel
    have := this (z + 127).toNat (by omega)
    rwa [show (((z + 127).toNat : ℤ) - 127) = z by omega] at this

theorem code_narrow {lo : BitVec 32} (h : -127 ≤ lo.toInt) (hlo : lo.toInt ≤ 127) (a x : EReal) :
    (Ideal.fptosi 32 (clipped lo a x)).setWidth 8 = codeOf lo a x :=
  narrow_code (le_trans (EReal.coe_le_coe_iff.mpr (by exact_mod_cast h)) (clipped_bounds hlo a x).1) (clipped_bounds hlo a x).2

end Cert.KernelIdeal.Soap

end
-- ==== Proof.Reference.lean ====
/-
The reference's terms, operation by operation, and each as the optimizer's mathematics entry by entry.
-/
module

public import proofs.«01_k».proof.Proof.Gen.ReferenceIdeal.Run
public import proofs.«01_k».proof.Proof.Formulas

@[expose] public section

set_option maxRecDepth 16384

noncomputable section

namespace Cert.ReferenceIdeal.Soap

open Cert.ReferenceIdeal Cert.ReferenceIdeal.Gen
open Idealize.ShloMosaic Idealize.ShloMosaic.TcCoe Idealize.SL.Sem
open Cert.KernelIdeal.Soap (beta rest blockMax scaleOf clipped codeOf mag dequant mNew vNew blockAt blockOf mScale mCode
  vScale vCode intoL intoR backL backR direction change moved lNew rNew code_narrow)

/-! ## The reference's terms -/

/-- Codes times scales. -/
def tDequant (q : IVec S3x2688x2816 8) (s : FVec Ideal S3x2688x11 .f32) : FVec Ideal S3x2688x2816 .f32 :=
  shapeCast _ (mulf (shapeCast _ (sitofp .f32 (extsi 32 q natLt_8_32)) shapeCasts_S3x2688x2816_S3x2688x11x256) (broadcastInDim S3x2688x11x256 ![0, 1, 2, 3] bcast_S3x2688x11x1_S3x2688x11x256_0_1_2_3 (broadcastInDim S3x2688x11x1 ![0, 1, 2] bcast_S3x2688x11_S3x2688x11x1_0_1_2 s))) shapeCasts_S3x2688x11x256_S3x2688x2816

/-- The new first moment. -/
def tMNew (q : IVec S3x2688x2816 8) (s : FVec Ideal S3x2688x11 .f32) (g : FVec Ideal S3x2688x2816 .bf16) : FVec Ideal S3x2688x2816 .f32 :=
  addf (mulf (broadcastInDim S3x2688x2816 ![] bcast_S_S3x2688x2816 (constant S_ .f32 0x3F733333#32)) (tDequant q s)) (mulf (broadcastInDim S3x2688x2816 ![] bcast_S_S3x2688x2816 (constant S_ .f32 0x3D4CCCD0#32)) (extf .f32 g bitsLt_bf16_f32))

/-- The new second moment. -/
def tVNew (q : IVec S3x2688x2816 8) (s : FVec Ideal S3x2688x11 .f32) (g : FVec Ideal S3x2688x2816 .f32) : FVec Ideal S3x2688x2816 .f32 :=
  addf (mulf (broadcastInDim S3x2688x2816 ![] bcast_S_S3x2688x2816 (constant S_ .f32 0x3F733333#32)) (tDequant q s)) (mulf (mulf (broadcastInDim S3x2688x2816 ![] bcast_S_S3x2688x2816 (constant S_ .f32 0x3D4CCCD0#32)) g) g)

/-- Blocks' scales from the entries whose maximum is taken. -/
def tScale (a : FVec Ideal S3x2688x11x256 .f32) : FVec Ideal S3x2688x11 .f32 :=
  select (cmpf .oeq (Host.reduce FloatOps.maximumf a (constant S_ .f32 0xFF800000#32) reducesTo_S3x2688x11x256_S3x2688x11_d3 h_S_) (broadcastInDim S3x2688x11 ![] bcast_S_S3x2688x11 (constant S_ .f32 0x00000000#32))) (broadcastInDim S3x2688x11 ![] bcast_S_S3x2688x11 (constant S_ .f32 0x3F800000#32)) (Host.divf (Host.reduce FloatOps.maximumf a (constant S_ .f32 0xFF800000#32) reducesTo_S3x2688x11x256_S3x2688x11_d3 h_S_) (broadcastInDim S3x2688x11 ![] bcast_S_S3x2688x11 (constant S_ .f32 0x42FE0000#32)))

/-- Codes, from the blocks and their scales, clipped below at `lo`. -/
def tCode (lo : BitVec 32) (x : FVec Ideal S3x2688x11x256 .f32) (s : FVec Ideal S3x2688x11 .f32) : IVec S3x2688x2816 8 :=
  shapeCast _ (trunci 8 (fptosi 32 (minimumf (broadcastInDim S3x2688x11x256 ![] bcast_S_S3x2688x11x256 (sitofp .f32 (constantI S_ 32 127#32))) (maximumf (broadcastInDim S3x2688x11x256 ![] bcast_S_S3x2688x11x256 (sitofp .f32 (constantI S_ 32 lo))) (Host.roundeven (Host.divf x (broadcastInDim S3x2688x11x256 ![0, 1, 2, 3] bcast_S3x2688x11x1_S3x2688x11x256_0_1_2_3 (broadcastInDim S3x2688x11x1 ![0, 1, 2] bcast_S3x2688x11_S3x2688x11x1_0_1_2 s))))))) natLt_8_32) shapeCasts_S3x2688x11x256_S3x2688x2816

/-- Rows cut in blocks of 256. -/
def tBlocks (x : FVec Ideal S3x2688x2816 .f32) : FVec Ideal S3x2688x11x256 .f32 :=
  shapeCast _ x shapeCasts_S3x2688x2816_S3x2688x11x256

def tMScale (x : FVec Ideal S3x2688x2816 .f32) : FVec Ideal S3x2688x11 .f32 := tScale (Host.absf (tBlocks x))
def tMCode (x : FVec Ideal S3x2688x2816 .f32) : IVec S3x2688x2816 8 := tCode 4294967169#32 (tBlocks x) (tMScale x)
def tVScale (x : FVec Ideal S3x2688x2816 .f32) : FVec Ideal S3x2688x11 .f32 := tScale (tBlocks x)
def tVCode (x : FVec Ideal S3x2688x2816 .f32) : IVec S3x2688x2816 8 := tCode 0#32 (tBlocks x) (tVScale x)

def tIntoL (q : FVec Ideal S3x2688x2688 .bf16) (x : FVec Ideal S3x2688x2816 .bf16) : FVec Ideal S3x2688x2816 .bf16 :=
  truncf .bf16 (Host.dotGeneral dot_S3x2688x2688_S3x2688x2816_S3x2688x2816_1_1_2_2_0_0 none q x) bitsLt_bf16_f32
def tIntoR (x : FVec Ideal S3x2688x2816 .bf16) (q : FVec Ideal S3x2816x2816 .bf16) : FVec Ideal S3x2688x2816 .f32 :=
  Host.dotGeneral dot_S3x2688x2816_S3x2816x2816_S3x2688x2816_2_1_1_2_0_0 none x q
def tBackL (q : FVec Ideal S3x2688x2688 .bf16) (x : FVec Ideal S3x2688x2816 .bf16) : FVec Ideal S3x2688x2816 .bf16 :=
  truncf .bf16 (Host.dotGeneral dot_S3x2688x2688_S3x2688x2816_S3x2688x2816_2_1_1_2_0_0 none q x) bitsLt_bf16_f32
def tBackR (x : FVec Ideal S3x2688x2816 .bf16) (q : FVec Ideal S3x2816x2816 .bf16) : FVec Ideal S3x2688x2816 .f32 :=
  Host.dotGeneral dot_S3x2688x2816_S3x2816x2816_S3x2688x2816_2_2_1_1_0_0 none x q
def tDirection (m v : FVec Ideal S3x2688x2816 .f32) : FVec Ideal S3x2688x2816 .bf16 :=
  truncf .bf16 (Host.divf m (addf (Host.sqrt v) (broadcastInDim S3x2688x2816 ![] bcast_S_S3x2688x2816 (constant S_ .f32 0x322BCC77#32)))) bitsLt_bf16_f32

/-- The step size of each batch. -/
def tStep (n : IVec S3 32) : FVec Ideal S3 .f32 :=
  Host.divf (mulf (broadcastInDim S3 ![] bcast_S_S3 (constant S_ .f32 0x3B449BA6#32)) (Host.sqrt (subf (broadcastInDim S3 ![] bcast_S_S3 (constant S_ .f32 0x3F800000#32)) (Host.powf (broadcastInDim S3 ![] bcast_S_S3 (constant S_ .f32 0x3F733333#32)) (sitofp .f32 n))))) (subf (broadcastInDim S3 ![] bcast_S_S3 (constant S_ .f32 0x3F800000#32)) (Host.powf (broadcastInDim S3 ![] bcast_S_S3 (constant S_ .f32 0x3F733333#32)) (sitofp .f32 n)))
def tChange (s : FVec Ideal S3 .f32) (u : FVec Ideal S3x2688x2816 .f32) : FVec Ideal S3x2688x2816 .f32 :=
  mulf (broadcastInDim S3x2688x2816 ![0, 1, 2] bcast_S3x1x1_S3x2688x2816_0_1_2 (Host.negf (broadcastInDim S3x1x1 ![0] bcast_S3_S3x1x1_0 s))) u
def tLNew (l : FVec Ideal S3x2688x2688 .f32) (g : FVec Ideal S3x2688x2816 .bf16) : FVec Ideal S3x2688x2688 .f32 :=
  addf (mulf (broadcastInDim S3x2688x2688 ![] bcast_S_S3x2688x2688 (constant S_ .f32 0x3F733333#32)) l) (mulf (broadcastInDim S3x2688x2688 ![] bcast_S_S3x2688x2688 (constant S_ .f32 0x3D4CCCD0#32)) (Host.dotGeneral dot_S3x2688x2816_S3x2688x2816_S3x2688x2688_2_2_1_1_0_0 none g g))
def tRNew (r : FVec Ideal S3x2816x2816 .f32) (g : FVec Ideal S3x2688x2816 .bf16) : FVec Ideal S3x2816x2816 .f32 :=
  addf (mulf (broadcastInDim S3x2816x2816 ![] bcast_S_S3x2816x2816 (constant S_ .f32 0x3F733333#32)) r) (mulf (broadcastInDim S3x2816x2816 ![] bcast_S_S3x2816x2816 (constant S_ .f32 0x3D4CCCD0#32)) (Host.dotGeneral dot_S3x2688x2816_S3x2688x2816_S3x2816x2816_1_1_2_2_0_0 none g g))

/-! ## … entry by entry -/

theorem sitofp_wide (x : BitVec 8) : FloatOps.sitofp (F := Ideal) FTy.f32 (x.signExtend 32) = (((x.toInt : ℝ)) : EReal) := by
  show (((x.signExtend 32).toInt : ℝ) : EReal) = _
  rw [BitVec.toInt_signExtend_of_le (by norm_num)]

theorem dequant_eq (q : IVec S3x2688x2816 8) (s : FVec Ideal S3x2688x11 .f32) (j) : tDequant q s j = dequant q s j := by
  idx_vars j
  pointwise [tDequant, dequant]
  rw [sitofp_wide]
theorem intoL_eq (q x) : tIntoL q x = intoL q x := by
  funext j; idx_vars j; pointwise [tIntoL, intoL]
theorem intoR_eq (q x) : tIntoR q x = intoR q x := by
  funext j; idx_vars j; pointwise [tIntoR, intoR]
theorem backL_eq (q x) : tBackL q x = backL q x := by
  funext j; idx_vars j; pointwise [tBackL, backL]
theorem backR_eq (q x) : tBackR q x = backR q x := by
  funext j; idx_vars j; pointwise [tBackR, backR]
theorem direction_eq (m v) : tDirection m v = direction m v := by
  funext j; idx_vars j; pointwise [tDirection, direction]
theorem change_eq (s u) : tChange s u = change s u := by
  funext j; idx_vars j; pointwise [tChange, change]
theorem moved_eq (w d : FVec Ideal S3x2688x2816 .f32) : addf w d = moved w d := by
  funext j; idx_vars j; pointwise [moved]
theorem lNew_eq (l g) : tLNew l g = lNew l g := by
  funext j; idx_vars j; pointwise [tLNew, lNew, beta, rest]
theorem rNew_eq (r g) : tRNew r g = rNew r g := by
  funext j; idx_vars j; pointwise [tRNew, rNew, beta, rest]
theorem mNew_eq (q s g) : tMNew q s g = mNew q s g := by
  funext j; idx_vars j; pointwise [tMNew, mNew, beta, rest, dequant_eq]
theorem vNew_eq (q s g) : tVNew q s g = vNew q s g := by
  funext j; idx_vars j; pointwise [tVNew, vNew, beta, rest, dequant_eq]
theorem red_at (a : FVec Ideal S3x2688x11x256 .f32) (p : Fin 3) (r : Fin 2688) (b : Fin 11) :
   Host.reduce FloatOps.maximumf a (constant S_ .f32 0xFF800000#32) reducesTo_S3x2688x11x256_S3x2688x11_d3 h_S_ (ix3 p r b) = blockMax fun k => a (ix4 p r b k) := by
  pointwise [blockMax]
theorem scale_of (M : FVec Ideal S3x2688x11 .f32) (p : Fin 3) (r : Fin 2688) (b : Fin 11) :
  (select (cmpf .oeq M (broadcastInDim S3x2688x11 ![] bcast_S_S3x2688x11 (constant S_ .f32 0x00000000#32))) (broadcastInDim S3x2688x11 ![] bcast_S_S3x2688x11 (constant S_ .f32 0x3F800000#32)) (Host.divf M (broadcastInDim S3x2688x11 ![] bcast_S_S3x2688x11 (constant S_ .f32 0x42FE0000#32)))) (ix3 p r b) = scaleOf (M (ix3 p r b)) := by
  pointwise [scaleOf]

theorem scale_at (a : FVec Ideal S3x2688x11x256 .f32) (p : Fin 3) (r : Fin 2688) (b : Fin 11) :
    tScale a (ix3 p r b) = scaleOf (blockMax fun k => a (ix4 p r b k)) :=
  (scale_of _ p r b).trans (congrArg scaleOf (red_at a p r b))
theorem blocks_at (x : FVec Ideal S3x2688x2816 .f32) (p : Fin 3) (r : Fin 2688) (b : Fin 11) (k : Fin 256) :
    tBlocks x (ix4 p r b k) = blockAt x p r b k := by
  pointwise [tBlocks, blockAt]
theorem mScale_eq (x) : tMScale x = mScale x := by
  funext j; idx_vars j
  refine (scale_at _ j0 j1 j2).trans ?_
  exact congrArg (fun f => scaleOf (blockMax f)) (funext fun k => congrArg mag (blocks_at x j0 j1 j2 k))
theorem vScale_eq (x) : tVScale x = vScale x := by
  funext j; idx_vars j
  refine (scale_at _ j0 j1 j2).trans ?_
  exact congrArg (fun f => scaleOf (blockMax f)) (funext fun k => blocks_at x j0 j1 j2 k)
theorem mCode_eq (x) : tMCode x = mCode x := by
  funext j; idx_vars j; pointwise [tMCode, tCode, tBlocks, mScale_eq, mScale, mCode]
  exact code_narrow (lo := 4294967169#32) (by decide) (by decide) _ _
theorem vCode_eq (x) : tVCode x = vCode x := by
  funext j; idx_vars j; pointwise [tVCode, tCode, tBlocks, vScale_eq, vScale, vCode]
  exact code_narrow (lo := 0#32) (by decide) (by decide) _ _

/-! ## The reference's run -/

section
variable (w : FVec Ideal S3x2688x2816 .f32) (g : FVec Ideal S3x2688x2816 .bf16) (ql : FVec Ideal S3x2688x2688 .bf16)
  (qr : FVec Ideal S3x2816x2816 .bf16) (mc : IVec S3x2688x2816 8) (ms : FVec Ideal S3x2688x11 .f32) (vc : IVec S3x2688x2816 8)
  (vs : FVec Ideal S3x2688x11 .f32) (l : FVec Ideal S3x2688x2688 .f32) (r : FVec Ideal S3x2816x2816 .f32) (n : IVec S3 32)
/-- The new second moment, in the rotated basis. -/
def second := vNew vc vs (intoR (intoL ql g) qr)
/-- The change of the weights. -/
def delta := change (tStep n) (backR (backL ql (direction (intoR (intoL ql (mNew mc ms g)) qr) (second g ql qr vc vs))) qr)
end

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v89) = moved (m ((c.tc : Thread nD τ).loc main_arg0)) (delta (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)))
      ∧ r.2.mem ((c.tc : Thread nD τ).loc main_v88) = delta (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10))
      ∧ r.2.mem ((c.tc : Thread nD τ).loc main_v96) = lNew (m ((c.tc : Thread nD τ).loc main_arg8)) (m ((c.tc : Thread nD τ).loc main_arg1))
      ∧ r.2.mem ((c.tc : Thread nD τ).loc main_v101) = rNew (m ((c.tc : Thread nD τ).loc main_arg9)) (m ((c.tc : Thread nD τ).loc main_arg1))
      ∧ r.2.mem ((c.tc : Thread nD τ).loc main_v28) = mCode (mNew (m ((c.tc : Thread nD τ).loc main_arg4)) (m ((c.tc : Thread nD τ).loc main_arg5)) (m ((c.tc : Thread nD τ).loc main_arg1)))
      ∧ r.2.mem ((c.tc : Thread nD τ).loc main_v20) = mScale (mNew (m ((c.tc : Thread nD τ).loc main_arg4)) (m ((c.tc : Thread nD τ).loc main_arg5)) (m ((c.tc : Thread nD τ).loc main_arg1)))
      ∧ r.2.mem ((c.tc : Thread nD τ).loc main_v59) = vCode (second (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)))
      ∧ r.2.mem ((c.tc : Thread nD τ).loc main_v51) = vScale (second (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) :=
  (θ_run defs _ _).mono (fun _ h c => by
    obtain ⟨h0, h1, h2, h3, h4, h5, h6, h7, hargs⟩ := h c
    refine ⟨⟨h0.trans ?_, h1.trans ?_, h2.trans ?_, h3.trans ?_, h4.trans ?_, h5.trans ?_, h6.trans ?_, h7.trans ?_⟩, hargs⟩
    · simp only [delta, second, ← moved_eq, ← change_eq, ← backR_eq, ← backL_eq, ← direction_eq, ← intoR_eq, ← intoL_eq, ← vNew_eq, ← mNew_eq]; rfl
    · simp only [delta, second, ← change_eq, ← backR_eq, ← backL_eq, ← direction_eq, ← intoR_eq, ← intoL_eq, ← vNew_eq, ← mNew_eq]; rfl
    · rw [← lNew_eq]; rfl
    · rw [← rNew_eq]; rfl
    · rw [← mCode_eq, ← mNew_eq]; rfl
    · rw [← mScale_eq, ← mNew_eq]; rfl
    · simp only [second, ← vCode_eq, ← intoR_eq, ← intoL_eq, ← vNew_eq]; rfl
    · simp only [second, ← vScale_eq, ← intoR_eq, ← intoL_eq, ← vNew_eq]; rfl) (Value.run m ρ)

end Cert.ReferenceIdeal.Soap

end
-- ==== Proof.Value0.lean ====
/-
The first call's results: `q_lᵀ · g`, the new first moment, its codes and its scales.
-/
module

public import proofs.«01_k».proof.Proof.Region0
public import proofs.«01_k».proof.Proof.Formulas

@[expose] public section

set_option maxRecDepth 16384

noncomputable section

namespace Cert.KernelIdeal.Soap

open Cert.KernelIdeal Cert.KernelIdeal.Gen
open Idealize.ShloMosaic Idealize.ShloMosaic.TcCoe Idealize.SL.Sem
open Idealize.ShloMosaic.Pipeline (Dat)

variable (V : Dev nD → Valuation τ sig (Elt Ideal))

/-- Where each window's block lies. -/
theorem idx0 : ∀ t : Fin cfg0.N, win0_0.index t = ![t.val / 7, 0, t.val % 7] ∧ win0_1.index t = ![t.val / 7, 0, 0]
    ∧ win0_2.index t = ![t.val / 7, t.val % 7, 0] ∧ win0_3.index t = ![t.val / 7, t.val % 7, 0]
    ∧ win0_4.index t = ![t.val / 7, t.val % 7, 0] ∧ win0_5.index t = ![t.val / 7, t.val % 7, 0]
    ∧ win0_6.index t = ![t.val / 7, t.val % 7, 0] ∧ win0_7.index t = ![t.val / 7, t.val % 7, 0] :=
  (by decide +kernel : ∀ t : Fin grid0.N, _)

theorem point0_4 (c : Dev nD) (t : Fin cfg0.N) (y : S1x384x2816.Idx) : outAt0_4 V c t y
    = intoL (V c (Proc.devRef .tc main_arg2)) (V c (Proc.devRef .tc main_arg1)) (((cfg0.win 4).blk t).view.emb y) := by
  unfold outAt0_4; frame_out
  canon_tiles x h using (View.cover_of_tiledBy _ ![1, 384, 256] (by sl_kernel_rfl) y)
  all_goals
    pointwise [k0_pay2, k0_pay3, k0_pay4, k0_pay5, k0_pay6, k0_pay7, k0_pay8, k0_pay9, intoL]
    blk_point [iblk0, idx0 t]

/-- The rotated gradient. -/
theorem final0_4 (c : Dev nD) : (dat0 V c).arrAt 4 cfg0.N
    = intoL (V c (Proc.devRef .tc main_arg2)) (V c (Proc.devRef .tc main_arg1)) := by
  refine (dat0 V c).arrAt_eq_of_covers 4 _ (by decide +kernel) fun t _ y => ?_
  blk_simp
  rw [after0_4]
  exact point0_4 V c t y

end Cert.KernelIdeal.Soap

end
-- ==== Proof.Moment0.lean ====
/-
The first call's results: the new first moment, and a tile of it from the tile's codes and scales.
-/
module

public import proofs.«01_k».proof.Proof.Value0
public import proofs.«01_k».proof.Proof.Formulas

@[expose] public section

set_option maxRecDepth 16384

noncomputable section

namespace Cert.KernelIdeal.Soap

open Cert.KernelIdeal Cert.KernelIdeal.Gen
open Idealize.ShloMosaic Idealize.ShloMosaic.TcCoe Idealize.SL.Sem
open Idealize.ShloMosaic.Pipeline (Dat)

variable (V : Dev nD → Valuation τ sig (Elt Ideal))

/-- An entry of a tile of the new first moment, from the tile's codes, scales and gradient. -/
def mTile (x : Vec Ideal S1x384x256 .i8) (s : Vec Ideal S1x384x1 .f32) (g : Vec Ideal S1x384x256 .bf16) (r : Fin 384) (l : Fin 256) : EReal :=
  beta * ((((x (ix3 0 r l)).toInt : ℝ) : EReal) * s (ix3 0 r 0)) + rest * g (ix3 0 r l)

theorem mTile_moment (x : Vec Ideal S1x384x256 .i8) (s : Vec Ideal S1x384x1 .f32) (g : Vec Ideal S1x384x256 .bf16) (r : Fin 384) (l : Fin 256) :
    k0_pay11 (k0_pay10 x s) g (ix2 r l) = mTile x s g r l := by
  pointwise [k0_pay11, k0_pay10, mTile, beta, rest]
  rfl

theorem mTile_bf (x : Vec Ideal S1x384x256 .i8) (s : Vec Ideal S1x384x1 .f32) (g : Vec Ideal S1x384x256 .bf16) (y : S1x384x256.Idx) :
    k0_pay12 (k0_pay10 x s) g y = mTile x s g (y 1) (y 2) := by
  idx_vars y
  pointwise [k0_pay12, mTile_moment]

theorem mTile_scale (x : Vec Ideal S1x384x256 .i8) (s : Vec Ideal S1x384x1 .f32) (g : Vec Ideal S1x384x256 .bf16) (r : Fin 384) :
    k0_pay13 (k0_pay10 x s) g (ix2 r 0) = scaleOf (blockMax fun k => mag (mTile x s g r k)) := by
  pointwise [k0_pay13, mTile_moment]
  rfl

theorem mTile_scales (x : Vec Ideal S1x384x256 .i8) (s : Vec Ideal S1x384x1 .f32) (g : Vec Ideal S1x384x256 .bf16) (y : S1x384x1.Idx) :
    k0_pay15 (k0_pay10 x s) g y = scaleOf (blockMax fun k => mag (mTile x s g (y 1) k)) := by
  idx_vars y
  pointwise [k0_pay15]
  exact mTile_scale x s g _

theorem mTile_codes (x : Vec Ideal S1x384x256 .i8) (s : Vec Ideal S1x384x1 .f32) (g : Vec Ideal S1x384x256 .bf16) (y : S1x384x256.Idx) :
    k0_pay14 (k0_pay10 x s) g y = codeOf 4294967169#32 (blockMax fun k => mag (mTile x s g (y 1) k)) (mTile x s g (y 1) (y 2)) := by
  idx_vars y
  pointwise [k0_pay14, mTile_moment, mTile_scale]
  rfl

/-- The rows of the gradient a point reads are its own. -/
theorem off0 : ∀ t : Fin cfg0.N, k0_off1 (grid0.coords t) = ![0, t.val % 7 * 384, 0] ∧ k0_off2 (grid0.coords t) = ![0, t.val % 7 * 384, 256] ∧ k0_off3 (grid0.coords t) = ![0, t.val % 7 * 384, 512] ∧ k0_off4 (grid0.coords t) = ![0, t.val % 7 * 384, 768] ∧ k0_off5 (grid0.coords t) = ![0, t.val % 7 * 384, 1024] ∧ k0_off6 (grid0.coords t) = ![0, t.val % 7 * 384, 1280] ∧ k0_off7 (grid0.coords t) = ![0, t.val % 7 * 384, 1536] ∧ k0_off8 (grid0.coords t) = ![0, t.val % 7 * 384, 1792] ∧ k0_off9 (grid0.coords t) = ![0, t.val % 7 * 384, 2048] ∧ k0_off10 (grid0.coords t) = ![0, t.val % 7 * 384, 2304] ∧ k0_off11 (grid0.coords t) = ![0, t.val % 7 * 384, 2560] :=
  (by decide +kernel : ∀ t : Fin grid0.N, _)

theorem point0_5 (c : Dev nD) (t : Fin cfg0.N) (y : S1x384x2816.Idx) : outAt0_5 V c t y
    = mNew (V c (Proc.devRef .tc main_arg4)) (V c (Proc.devRef .tc main_arg5)) (V c (Proc.devRef .tc main_arg1)) (((cfg0.win 5).blk t).view.emb y) := by
  unfold outAt0_5; frame_out
  canon_tiles x h
  all_goals
    refine (mTile_bf _ _ _ x).trans ?_
    pointwise [mTile, mNew, dequant]
    blk_point [iblk0, idx0 t, off0 t]

/-- The call's result array 5. -/
theorem final0_5 (c : Dev nD) : (dat0 V c).arrAt 5 cfg0.N
    = mNew (V c (Proc.devRef .tc main_arg4)) (V c (Proc.devRef .tc main_arg5)) (V c (Proc.devRef .tc main_arg1)) := by
  refine (dat0 V c).arrAt_eq_of_covers 5 _ (by decide +kernel) fun t _ y => ?_
  blk_simp
  rw [after0_5]
  exact point0_5 V c t y

end Cert.KernelIdeal.Soap

end
-- ==== Proof.Blocks.lean ====
/-
A quantiser's code of an entry, from the 256 entries of its block and its place among them.
-/
module

public import proofs.«01_k».proof.Proof.Formulas

@[expose] public section

noncomputable section

namespace Cert.KernelIdeal.Soap

open Cert.KernelIdeal Cert.KernelIdeal.Gen
open Idealize.ShloMosaic Idealize.ShloMosaic.TcCoe Idealize.SL.Sem

/-- The entry of a column, found in the column's block. -/
theorem blockAt_blockOf (x : Vec Ideal S3x2688x2816 .f32) (j : S3x2688x2816.Idx) (l : Fin 256) (hl : (j 2 : ℕ) % 256 = l) :
    blockAt x (j 0) (j 1) (blockOf j) l = x j := by
  unfold blockAt
  refine congrArg x (funext fun a => ?_)
  match a with
  | 0 => rfl
  | 1 => rfl
  | 2 => exact Fin.ext (by show (j 2 : ℕ) / 256 * 256 + l = (j 2 : ℕ); omega)

/-- A code from its block's entries and its place in the block. -/
theorem vCode_of (x : Vec Ideal S3x2688x2816 .f32) (j : S3x2688x2816.Idx) (f : Fin 256 → EReal) (l : Fin 256)
    (hl : (j 2 : ℕ) % 256 = l) (h : ∀ k, f k = blockAt x (j 0) (j 1) (blockOf j) k) : codeOf 0#32 (blockMax f) (f l) = vCode x j := by
  unfold vCode
  rw [← blockAt_blockOf x j l hl, ← h l]
  exact congrArg (fun g => codeOf 0#32 (blockMax g) (f l)) (funext h)
theorem mCode_of (x : Vec Ideal S3x2688x2816 .f32) (j : S3x2688x2816.Idx) (f : Fin 256 → EReal) (l : Fin 256)
    (hl : (j 2 : ℕ) % 256 = l) (h : ∀ k, f k = blockAt x (j 0) (j 1) (blockOf j) k) :
    codeOf 4294967169#32 (blockMax fun k => mag (f k)) (f l) = mCode x j := by
  unfold mCode
  rw [← blockAt_blockOf x j l hl, ← h l]
  exact congrArg (fun g : Fin 256 → EReal => codeOf 4294967169#32 (blockMax fun k => mag (g k)) (f l)) (funext h)

end Cert.KernelIdeal.Soap

end
-- ==== Proof.Codes0.lean ====
/-
The first call's results: the codes of the new first moment.
-/
module

public import proofs.«01_k».proof.Proof.Moment0
public import proofs.«01_k».proof.Proof.Blocks

@[expose] public section

set_option maxRecDepth 16384

noncomputable section

namespace Cert.KernelIdeal.Soap

open Cert.KernelIdeal Cert.KernelIdeal.Gen
open Idealize.ShloMosaic Idealize.ShloMosaic.TcCoe Idealize.SL.Sem
open Idealize.ShloMosaic.Pipeline (Dat)

variable (V : Dev nD → Valuation τ sig (Elt Ideal))

set_option maxHeartbeats 4000000 in
theorem point0_6 (c : Dev nD) (t : Fin cfg0.N) (y : S1x384x2816.Idx) : outAt0_6 V c t y
    = mCode (mNew (V c (Proc.devRef .tc main_arg4)) (V c (Proc.devRef .tc main_arg5)) (V c (Proc.devRef .tc main_arg1))) (((cfg0.win 6).blk t).view.emb y) := by
  unfold outAt0_6; frame_out
  canon_tiles x h
  all_goals
    refine (mTile_codes _ _ _ x).trans (mCode_of _ _ (mTile _ _ _ (x 1)) (x 2) ?_ fun k => ?_)
    · blk_simp
      omega
    · pointwise [mTile, blockAt, blockOf, mNew, dequant]
      blk_point [iblk0, idx0 t, off0 t]

/-- The call's result array 6. -/
theorem final0_6 (c : Dev nD) : (dat0 V c).arrAt 6 cfg0.N
    = mCode (mNew (V c (Proc.devRef .tc main_arg4)) (V c (Proc.devRef .tc main_arg5)) (V c (Proc.devRef .tc main_arg1))) := by
  refine (dat0 V c).arrAt_eq_of_covers 6 _ (by decide +kernel) fun t _ y => ?_
  blk_simp
  rw [after0_6]
  exact point0_6 V c t y

end Cert.KernelIdeal.Soap

end
-- ==== Proof.Scales0.lean ====
/-
The first call's results: the scales of the new first moment.
-/
module

public import proofs.«01_k».proof.Proof.Moment0
public import proofs.«01_k».proof.Proof.Formulas

@[expose] public section

set_option maxRecDepth 16384

noncomputable section

namespace Cert.KernelIdeal.Soap

open Cert.KernelIdeal Cert.KernelIdeal.Gen
open Idealize.ShloMosaic Idealize.ShloMosaic.TcCoe Idealize.SL.Sem
open Idealize.ShloMosaic.Pipeline (Dat)

variable (V : Dev nD → Valuation τ sig (Elt Ideal))

theorem point0_7 (c : Dev nD) (t : Fin cfg0.N) (y : S1x384x11.Idx) : outAt0_7 V c t y
    = mScale (mNew (V c (Proc.devRef .tc main_arg4)) (V c (Proc.devRef .tc main_arg5)) (V c (Proc.devRef .tc main_arg1))) (((cfg0.win 7).blk t).view.emb y) := by
  unfold outAt0_7; frame_out
  canon_tiles x h
  all_goals
    refine (mTile_scales _ _ _ x).trans ?_
    refine congrArg scaleOf (congrArg blockMax (funext fun k => congrArg mag ?_))
    pointwise [mTile, blockAt, mNew, dequant]
    blk_point [iblk0, idx0 t, off0 t]

/-- The call's result array 7. -/
theorem final0_7 (c : Dev nD) : (dat0 V c).arrAt 7 cfg0.N
    = mScale (mNew (V c (Proc.devRef .tc main_arg4)) (V c (Proc.devRef .tc main_arg5)) (V c (Proc.devRef .tc main_arg1))) := by
  refine (dat0 V c).arrAt_eq_of_covers 7 _ (by decide +kernel) fun t _ y => ?_
  blk_simp
  rw [after0_7]
  exact point0_7 V c t y

end Cert.KernelIdeal.Soap

end
-- ==== Proof.Value1.lean ====
/-
The second call's result: `q_lᵀ · m`.
-/
module

public import proofs.«01_k».proof.Proof.Region1
public import proofs.«01_k».proof.Proof.Formulas

@[expose] public section

set_option maxRecDepth 16384

noncomputable section

namespace Cert.KernelIdeal.Soap

open Cert.KernelIdeal Cert.KernelIdeal.Gen
open Idealize.ShloMosaic Idealize.ShloMosaic.TcCoe Idealize.SL.Sem
open Idealize.ShloMosaic.Pipeline (Dat)

variable (V : Dev nD → Valuation τ sig (Elt Ideal))

/-- Where each window's block lies. -/
theorem idx1 : ∀ t : Fin cfg1.N, win1_0.index t = ![t.val / 7, 0, t.val % 7] ∧ win1_1.index t = ![t.val / 7, 0, 0]
    ∧ win1_2.index t = ![t.val / 7, t.val % 7, 0] :=
  (by decide +kernel : ∀ t : Fin grid1.N, _)

theorem point1 (c : Dev nD) (t : Fin cfg1.N) (y : S1x384x2816.Idx) : outAt1_2 V c t y
    = intoL (V c (Proc.devRef .tc main_arg2)) (V c (Proc.devRef .tc main_v13_1)) (((cfg1.win 2).blk t).view.emb y) := by
  unfold outAt1_2; frame_out
  canon_tiles x h using (View.cover_of_tiledBy _ ![1, 384, 256] (by sl_kernel_rfl) y)
  all_goals
    pointwise [k1_pay1, k1_pay2, k1_pay3, k1_pay4, k1_pay5, k1_pay6, k1_pay7, k1_pay8, intoL]
    blk_point [iblk1, idx1 t]

/-- The call's result array. -/
theorem final1 (c : Dev nD) : (dat1 V c).arrAt 2 cfg1.N
    = intoL (V c (Proc.devRef .tc main_arg2)) (V c (Proc.devRef .tc main_v13_1)) := by
  refine (dat1 V c).arrAt_eq_of_covers 2 _ (by decide +kernel) fun t _ y => ?_
  blk_simp
  rw [after1_2]
  exact point1 V c t y

end Cert.KernelIdeal.Soap

end
-- ==== Proof.Value2.lean ====
/-
The third call's results: the direction in the rotated basis, and a tile of the new second moment.
-/
module

public import proofs.«01_k».proof.Proof.Region2
public import proofs.«01_k».proof.Proof.Formulas

@[expose] public section

set_option maxRecDepth 16384

noncomputable section

namespace Cert.KernelIdeal.Soap

open Cert.KernelIdeal Cert.KernelIdeal.Gen
open Idealize.ShloMosaic Idealize.ShloMosaic.TcCoe Idealize.SL.Sem
open Idealize.ShloMosaic.Pipeline (Dat)

variable (V : Dev nD → Valuation τ sig (Elt Ideal))

/-- Where each window's block lies. -/
theorem idx2 : ∀ t : Fin cfg2.N, win2_0.index t = ![t.val / 7, t.val % 7, 0] ∧ win2_1.index t = ![t.val / 7, t.val % 7, 0]
    ∧ win2_2.index t = ![t.val / 7, 0, 0] ∧ win2_3.index t = ![t.val / 7, t.val % 7, 0]
    ∧ win2_4.index t = ![t.val / 7, t.val % 7, 0] ∧ win2_5.index t = ![t.val / 7, t.val % 7, 0]
    ∧ win2_6.index t = ![t.val / 7, t.val % 7, 0] ∧ win2_7.index t = ![t.val / 7, t.val % 7, 0] :=
  (by decide +kernel : ∀ t : Fin grid2.N, _)

/-- An entry of a tile of a product. -/
def prodTile (a : Vec Ideal S1x384x2816 .bf16) (q : Vec Ideal S1x2816x256 .bf16) (r : Fin 384) (l : Fin 256) : EReal :=
  ∑ k : Fin 2816, a (ix3 0 r k) * q (ix3 0 k l)
/-- An entry of a tile of the new second moment, from the rotated gradient's factors and the tile's codes and scales. -/
def vTile (a : Vec Ideal S1x384x2816 .bf16) (q : Vec Ideal S1x2816x256 .bf16) (x : Vec Ideal S1x384x256 .i8) (s : Vec Ideal S1x384x1 .f32)
    (r : Fin 384) (l : Fin 256) : EReal :=
  beta * ((((x (ix3 0 r l)).toInt : ℝ) : EReal) * s (ix3 0 r 0)) + rest * prodTile a q r l * prodTile a q r l

section
variable (a b : Vec Ideal S1x384x2816 .bf16) (q : Vec Ideal S1x2816x256 .bf16) (x : Vec Ideal S1x384x256 .i8) (s : Vec Ideal S1x384x1 .f32)

theorem vTile_prod (r : Fin 384) (l : Fin 256) : k2_pay5 b q (ix2 r l) = prodTile b q r l := by
  pointwise [k2_pay5, k2_pay3, k2_pay4, prodTile]

theorem vTile_moment (r : Fin 384) (l : Fin 256) : k2_pay6 a q x s (ix2 r l) = vTile a q x s r l := by
  pointwise [k2_pay6, k2_pay2, k2_pay4, vTile, prodTile, beta, rest]
  rfl

theorem vTile_scale (r : Fin 384) : k2_pay7 a q x s (ix2 r 0) = scaleOf (blockMax fun k => vTile a q x s r k) := by
  pointwise [k2_pay7, vTile_moment]
  rfl

theorem vTile_scales (y : S1x384x1.Idx) : k2_pay11 (k2_pay7 a q x s) y = scaleOf (blockMax fun k => vTile a q x s (y 1) k) := by
  idx_vars y
  pointwise [k2_pay11]
  exact vTile_scale a q x s _

theorem vTile_codes (y : S1x384x256.Idx) :
    k2_pay10 (k2_pay8 a q x s) 127#32 k2_pay9 y = codeOf 0#32 (blockMax fun k => vTile a q x s (y 1) k) (vTile a q x s (y 1) (y 2)) := by
  idx_vars y
  pointwise [k2_pay10, k2_pay8, k2_pay9, vTile_moment, vTile_scale]
  rfl

theorem vTile_direction (y : S1x384x256.Idx) : k2_pay12 (k2_pay5 b q) (k2_pay6 a q x s) y
    = Ideal.div (prodTile b q (y 1) (y 2)) (Ideal.sqrt (vTile a q x s (y 1) (y 2)) + Ideal.ofBits .f32 0x322BCC77#32) := by
  idx_vars y
  pointwise [k2_pay12, vTile_prod, vTile_moment]
end

theorem point2_5 (c : Dev nD) (t : Fin cfg2.N) (y : S1x384x2816.Idx) : outAt2_5 V c t y
    = direction (intoR (V c (Proc.devRef .tc main_v14)) (V c (Proc.devRef .tc main_arg3))) (vNew (V c (Proc.devRef .tc main_arg6)) (V c (Proc.devRef .tc main_arg7)) (intoR (V c (Proc.devRef .tc main_v13_0)) (V c (Proc.devRef .tc main_arg3)))) (((cfg2.win 5).blk t).view.emb y) := by
  unfold outAt2_5; frame_out
  canon_tiles x h
  all_goals
    refine (vTile_direction _ _ _ _ _ x).trans ?_
    pointwise [vTile, prodTile, direction, vNew, dequant, intoR]
    blk_point [iblk2, idx2 t]

/-- The call's result array 5. -/
theorem final2_5 (c : Dev nD) : (dat2 V c).arrAt 5 cfg2.N
    = direction (intoR (V c (Proc.devRef .tc main_v14)) (V c (Proc.devRef .tc main_arg3))) (vNew (V c (Proc.devRef .tc main_arg6)) (V c (Proc.devRef .tc main_arg7)) (intoR (V c (Proc.devRef .tc main_v13_0)) (V c (Proc.devRef .tc main_arg3)))) := by
  refine (dat2 V c).arrAt_eq_of_covers 5 _ (by decide +kernel) fun t _ y => ?_
  blk_simp
  rw [after2_5]
  exact point2_5 V c t y

end Cert.KernelIdeal.Soap

end
-- ==== Proof.Codes2.lean ====
/-
The third call's results: the codes of the new second moment.
-/
module

public import proofs.«01_k».proof.Proof.Value2
public import proofs.«01_k».proof.Proof.Blocks

@[expose] public section

set_option maxRecDepth 16384

noncomputable section

namespace Cert.KernelIdeal.Soap

open Cert.KernelIdeal Cert.KernelIdeal.Gen
open Idealize.ShloMosaic Idealize.ShloMosaic.TcCoe Idealize.SL.Sem
open Idealize.ShloMosaic.Pipeline (Dat)

variable (V : Dev nD → Valuation τ sig (Elt Ideal))

set_option maxHeartbeats 4000000 in
theorem point2_6 (c : Dev nD) (t : Fin cfg2.N) (y : S1x384x2816.Idx) : outAt2_6 V c t y
    = vCode (vNew (V c (Proc.devRef .tc main_arg6)) (V c (Proc.devRef .tc main_arg7)) (intoR (V c (Proc.devRef .tc main_v13_0)) (V c (Proc.devRef .tc main_arg3)))) (((cfg2.win 6).blk t).view.emb y) := by
  unfold outAt2_6; frame_out
  canon_tiles x h
  all_goals
    refine (vTile_codes _ _ _ _ x).trans (vCode_of _ _ (vTile _ _ _ _ (x 1)) (x 2) ?_ fun k => ?_)
    · blk_simp
      omega
    · pointwise [vTile, prodTile, blockAt, blockOf, vNew, dequant, intoR]
      blk_point [iblk2, idx2 t]

/-- The call's result array 6. -/
theorem final2_6 (c : Dev nD) : (dat2 V c).arrAt 6 cfg2.N
    = vCode (vNew (V c (Proc.devRef .tc main_arg6)) (V c (Proc.devRef .tc main_arg7)) (intoR (V c (Proc.devRef .tc main_v13_0)) (V c (Proc.devRef .tc main_arg3)))) := by
  refine (dat2 V c).arrAt_eq_of_covers 6 _ (by decide +kernel) fun t _ y => ?_
  blk_simp
  rw [after2_6]
  exact point2_6 V c t y

end Cert.KernelIdeal.Soap

end
-- ==== Proof.Scales2.lean ====
/-
The third call's results: the scales of the new second moment.
-/
module

public import proofs.«01_k».proof.Proof.Value2
public import proofs.«01_k».proof.Proof.Formulas

@[expose] public section

set_option maxRecDepth 16384

noncomputable section

namespace Cert.KernelIdeal.Soap

open Cert.KernelIdeal Cert.KernelIdeal.Gen
open Idealize.ShloMosaic Idealize.ShloMosaic.TcCoe Idealize.SL.Sem
open Idealize.ShloMosaic.Pipeline (Dat)

variable (V : Dev nD → Valuation τ sig (Elt Ideal))

theorem point2_7 (c : Dev nD) (t : Fin cfg2.N) (y : S1x384x11.Idx) : outAt2_7 V c t y
    = vScale (vNew (V c (Proc.devRef .tc main_arg6)) (V c (Proc.devRef .tc main_arg7)) (intoR (V c (Proc.devRef .tc main_v13_0)) (V c (Proc.devRef .tc main_arg3)))) (((cfg2.win 7).blk t).view.emb y) := by
  unfold outAt2_7; frame_out
  canon_tiles x h
  all_goals
    refine (vTile_scales _ _ _ _ x).trans ?_
    refine congrArg scaleOf (congrArg blockMax (funext fun k => ?_))
    pointwise [vTile, prodTile, blockAt, vNew, dequant, intoR]
    blk_point [iblk2, idx2 t]

/-- The call's result array 7. -/
theorem final2_7 (c : Dev nD) : (dat2 V c).arrAt 7 cfg2.N
    = vScale (vNew (V c (Proc.devRef .tc main_arg6)) (V c (Proc.devRef .tc main_arg7)) (intoR (V c (Proc.devRef .tc main_v13_0)) (V c (Proc.devRef .tc main_arg3)))) := by
  refine (dat2 V c).arrAt_eq_of_covers 7 _ (by decide +kernel) fun t _ y => ?_
  blk_simp
  rw [after2_7]
  exact point2_7 V c t y

end Cert.KernelIdeal.Soap

end
-- ==== Proof.Value3.lean ====
/-
The fourth call's result: `q_l · n`, `n` the direction in the rotated basis.
-/
module

public import proofs.«01_k».proof.Proof.Region3
public import proofs.«01_k».proof.Proof.Formulas

@[expose] public section

set_option maxRecDepth 16384

noncomputable section

namespace Cert.KernelIdeal.Soap

open Cert.KernelIdeal Cert.KernelIdeal.Gen
open Idealize.ShloMosaic Idealize.ShloMosaic.TcCoe Idealize.SL.Sem
open Idealize.ShloMosaic.Pipeline (Dat)

variable (V : Dev nD → Valuation τ sig (Elt Ideal))

/-- Where each window's block lies. -/
theorem idx3 : ∀ t : Fin cfg3.N, win3_0.index t = ![t.val / 7, t.val % 7, 0] ∧ win3_1.index t = ![t.val / 7, 0, 0]
    ∧ win3_2.index t = ![t.val / 7, t.val % 7, 0] :=
  (by decide +kernel : ∀ t : Fin grid3.N, _)

theorem point3 (c : Dev nD) (t : Fin cfg3.N) (y : S1x384x2816.Idx) : outAt3_2 V c t y
    = backL (V c (Proc.devRef .tc main_arg2)) (V c (Proc.devRef .tc main_v15_0)) (((cfg3.win 2).blk t).view.emb y) := by
  unfold outAt3_2; frame_out
  canon_tiles x h using (View.cover_of_tiledBy _ ![1, 384, 256] (by sl_kernel_rfl) y)
  all_goals
    pointwise [k3_pay1, k3_pay2, k3_pay3, k3_pay4, k3_pay5, k3_pay6, k3_pay7, k3_pay8, backL]
    blk_point [iblk3, idx3 t]

/-- The call's result array. -/
theorem final3 (c : Dev nD) : (dat3 V c).arrAt 2 cfg3.N
    = backL (V c (Proc.devRef .tc main_arg2)) (V c (Proc.devRef .tc main_v15_0)) := by
  refine (dat3 V c).arrAt_eq_of_covers 2 _ (by decide +kernel) fun t _ y => ?_
  blk_simp
  rw [after3_2]
  exact point3 V c t y

end Cert.KernelIdeal.Soap

end
-- ==== Proof.Value4.lean ====
/-
The fifth call's results: the change of the weights and the new weights.
-/
module

public import proofs.«01_k».proof.Proof.Region4
public import proofs.«01_k».proof.Proof.Formulas

@[expose] public section

set_option maxRecDepth 16384

noncomputable section

namespace Cert.KernelIdeal.Soap

open Cert.KernelIdeal Cert.KernelIdeal.Gen
open Idealize.ShloMosaic Idealize.ShloMosaic.TcCoe Idealize.SL.Sem
open Idealize.ShloMosaic.Pipeline (Dat)

variable (V : Dev nD → Valuation τ sig (Elt Ideal))

/-- Where each window's block lies. -/
theorem idx4 : ∀ t : Fin cfg4.N, win4_0.index t = ![0] ∧ win4_1.index t = ![t.val / 14, t.val % 14, 0] ∧ win4_2.index t = ![t.val / 14, 0, 0]
    ∧ win4_3.index t = ![t.val / 14, t.val % 14, 0] ∧ win4_4.index t = ![t.val / 14, t.val % 14, 0]
    ∧ win4_5.index t = ![t.val / 14, t.val % 14, 0] :=
  (by decide +kernel : ∀ t : Fin grid4.N, _)

/-- The step size a point reads is its batch's. -/
theorem off4 : ∀ t : Fin cfg4.N, k4_off1 (grid4.coords t) 0 = t.val / 14 :=
  (by decide +kernel : ∀ t : Fin grid4.N, k4_off1 (grid4.coords t) 0 = t.val / 14)

theorem zero_sub' (x : EReal) : 0 - x = -x := by rw [sub_eq_add_neg, zero_add]

theorem point4_5 (c : Dev nD) (t : Fin cfg4.N) (y : S1x192x2816.Idx) : outAt4_5 V c t y
    = change (V c (Proc.devRef .tc main_v12)) (backR (V c (Proc.devRef .tc main_v16)) (V c (Proc.devRef .tc main_arg3))) (((cfg4.win 5).blk t).view.emb y) := by
  unfold outAt4_5; frame_out
  have ho := off4 t
  canon_tiles x h using (View.cover_of_tiledBy _ ![1, 192, 256] (by sl_kernel_rfl) y)
  all_goals
    pointwise [k4_pay1, k4_pay2, k4_pay3, k4_pay4, k4_pay5, k4_pay6, k4_pay7, k4_pay8, k4_pay9, k4_pay10, k4_pay11, k4_pay12, k4_pay13, k4_pay14, k4_pay15, k4_pay16, k4_pay17, k4_pay18, k4_pay19, k4_pay20, k4_pay21, k4_pay22, change, backR]
    rw [zero_sub']
    blk_point [iblk4, idx4 t]

theorem point4_4 (c : Dev nD) (t : Fin cfg4.N) (y : S1x192x2816.Idx) : outAt4_4 V c t y
    = moved (V c (Proc.devRef .tc main_arg0)) (change (V c (Proc.devRef .tc main_v12)) (backR (V c (Proc.devRef .tc main_v16)) (V c (Proc.devRef .tc main_arg3)))) (((cfg4.win 4).blk t).view.emb y) := by
  unfold outAt4_4; frame_out
  have ho := off4 t
  canon_tiles x h using (View.cover_of_tiledBy _ ![1, 192, 256] (by sl_kernel_rfl) y)
  all_goals
    pointwise [k4_pay1, k4_pay2, k4_pay3, k4_pay4, k4_pay5, k4_pay6, k4_pay7, k4_pay8, k4_pay9, k4_pay10, k4_pay11, k4_pay12, k4_pay13, k4_pay14, k4_pay15, k4_pay16, k4_pay17, k4_pay18, k4_pay19, k4_pay20, k4_pay21, k4_pay22, moved, change, backR]
    rw [zero_sub']
    blk_point [iblk4, idx4 t]

theorem final4_5 (c : Dev nD) : (dat4 V c).arrAt 5 cfg4.N
    = change (V c (Proc.devRef .tc main_v12)) (backR (V c (Proc.devRef .tc main_v16)) (V c (Proc.devRef .tc main_arg3))) := by
  refine (dat4 V c).arrAt_eq_of_covers 5 _ (by decide +kernel) fun t _ y => ?_
  blk_simp
  rw [after4_5]
  exact point4_5 V c t y

theorem final4_4 (c : Dev nD) : (dat4 V c).arrAt 4 cfg4.N
    = moved (V c (Proc.devRef .tc main_arg0)) (change (V c (Proc.devRef .tc main_v12)) (backR (V c (Proc.devRef .tc main_v16)) (V c (Proc.devRef .tc main_arg3)))) := by
  refine (dat4 V c).arrAt_eq_of_covers 4 _ (by decide +kernel) fun t _ y => ?_
  blk_simp
  rw [after4_4]
  exact point4_4 V c t y

end Cert.KernelIdeal.Soap

end
-- ==== Proof.Value5.lean ====
/-
The sixth call's result: the moving average of `g · gᵀ`.
-/
module

public import proofs.«01_k».proof.Proof.Region5
public import proofs.«01_k».proof.Proof.Formulas

@[expose] public section

set_option maxRecDepth 16384

noncomputable section

namespace Cert.KernelIdeal.Soap

open Cert.KernelIdeal Cert.KernelIdeal.Gen
open Idealize.ShloMosaic Idealize.ShloMosaic.TcCoe Idealize.SL.Sem
open Idealize.ShloMosaic.Pipeline (Dat)

variable (V : Dev nD → Valuation τ sig (Elt Ideal))

/-- Where each window's block lies. -/
theorem idx5 : ∀ t : Fin cfg5.N, win5_0.index t = ![t.val / 7, 0, 0] ∧ win5_1.index t = ![t.val / 7, t.val % 7, 0]
    ∧ win5_2.index t = ![t.val / 7, t.val % 7, 0] :=
  (by decide +kernel : ∀ t : Fin grid5.N, _)

theorem ggtRow_at (x0 : Vec Ideal S1x2688x2816 .bf16) (k : ℕ) (hk : k < 7) (r : Fin 384) (d : Fin 2816) :
    ggtRow x0 k hk (ix3 0 r d) = x0 (ix3 0 (⟨384 * k + r, by omega⟩ : Fin 2688) d) :=
  congrArg x0 (funext fun a => Fin.ext (match a with
    | ⟨0, _⟩ => rfl
    | ⟨1, _⟩ => by show 384 * k + 1 * (r : ℕ) = 384 * k + r; omega
    | ⟨2, _⟩ => by show 0 + 1 * (d : ℕ) = d; omega))
theorem ggtCol_at (x1 : Vec Ideal S1x384x2688 .f32) (j : ℕ) (hj : j < 7) (r l : Fin 384) :
    ggtCol x1 j hj (ix3 0 r l) = x1 (ix3 0 r (⟨384 * j + l, by omega⟩ : Fin 2688)) :=
  congrArg x1 (funext fun a => Fin.ext (match a with
    | ⟨0, _⟩ => rfl
    | ⟨1, _⟩ => by show 0 + 1 * (r : ℕ) = r; omega
    | ⟨2, _⟩ => by show 384 * j + 1 * (l : ℕ) = 384 * j + l; omega))

/-- A tile of the result, whichever way the product was found: the product of two rows, in either order. -/
theorem ggtVal_at (x0 : Vec Ideal S1x2688x2816 .bf16) (x1 : Vec Ideal S1x384x2688 .f32) (k j : ℕ) (hk : k < 7) (hj : j < 7)
    (a : Fin 1) (r l : Fin 384) :
    ggtVal x0 x1 k j hk hj (ix3 a r l) = beta * x1 (ix3 0 r (⟨384 * j + l, by omega⟩ : Fin 2688))
      + rest * ∑ d : Fin 2816, x0 (ix3 0 (⟨384 * k + r, by omega⟩ : Fin 2688) d) * x0 (ix3 0 (⟨384 * j + l, by omega⟩ : Fin 2688) d) := by
  unfold ggtVal
  split
  · pointwise [ggtMix, ggtKeep, ggtDot, beta, rest]
    exact Ideal.add_congr (Ideal.mul_congr rfl (ggtCol_at x1 j hj r l)) (Ideal.mul_congr rfl (Finset.sum_congr rfl fun d _ =>
      (Ideal.mul_congr (ggtRow_at x0 j hj l d) (ggtRow_at x0 k hk r d)).trans (mul_comm _ _)))
  · pointwise [ggtMix, ggtDot, beta, rest]
    exact Ideal.add_congr (Ideal.mul_congr rfl (ggtCol_at x1 j hj r l)) (Ideal.mul_congr rfl (Finset.sum_congr rfl fun d _ =>
      Ideal.mul_congr (ggtRow_at x0 k hk r d) (ggtRow_at x0 j hj l d)))

theorem point5 (c : Dev nD) (t : Fin cfg5.N) (y : S1x384x2688.Idx) : outAt5_2 V c t y
    = lNew (V c (Proc.devRef .tc main_arg8)) (V c (Proc.devRef .tc main_arg1)) (((cfg5.win 2).blk t).view.emb y) := by
  unfold outAt5_2 outGgt
  refine (congrArg _ (eq_ix3 _)).trans ((ggtVal_at _ _ _ _ _ _ _ _ _).trans ?_)
  pointwise [lNew]
  blk_point [iblk5, idx5 t]

/-- The call's result array. -/
theorem final5 (c : Dev nD) : (dat5 V c).arrAt 2 cfg5.N
    = lNew (V c (Proc.devRef .tc main_arg8)) (V c (Proc.devRef .tc main_arg1)) := by
  refine (dat5 V c).arrAt_eq_of_covers 2 _ (by decide +kernel) fun t _ y => ?_
  blk_simp
  rw [after5_2]
  exact point5 V c t y

end Cert.KernelIdeal.Soap

end
-- ==== Proof.Value6.lean ====
/-
The seventh call's result: the moving average of `gᵀ · g`.
-/
module

public import proofs.«01_k».proof.Proof.Region6
public import proofs.«01_k».proof.Proof.Formulas

@[expose] public section

set_option maxRecDepth 16256

noncomputable section

namespace Cert.KernelIdeal.Soap

open Cert.KernelIdeal Cert.KernelIdeal.Gen
open Idealize.ShloMosaic Idealize.ShloMosaic.TcCoe Idealize.SL.Sem
open Idealize.ShloMosaic.Pipeline (Dat)

variable (V : Dev nD → Valuation τ sig (Elt Ideal))

/-- Where each window's block lies. -/
theorem idx6 : ∀ t : Fin cfg6.N, win6_0.index t = ![t.val / 11, 0, 0] ∧ win6_1.index t = ![t.val / 11, t.val % 11, 0]
    ∧ win6_2.index t = ![t.val / 11, t.val % 11, 0] :=
  (by decide +kernel : ∀ t : Fin grid6.N, _)

theorem gtgRow_at (x0 : Vec Ideal S1x2688x2816 .bf16) (k : ℕ) (hk : k < 11) (d : Fin 2688) (r : Fin 256) :
    gtgRow x0 k hk (ix3 0 d r) = x0 (ix3 0 d (⟨256 * k + r, by omega⟩ : Fin 2816)) :=
  congrArg x0 (funext fun a => Fin.ext (match a with
    | ⟨0, _⟩ => rfl
    | ⟨1, _⟩ => by show 0 + 1 * (d : ℕ) = d; omega
    | ⟨2, _⟩ => by show 256 * k + 1 * (r : ℕ) = 256 * k + r; omega))
theorem gtgCol_at (x1 : Vec Ideal S1x256x2816 .f32) (j : ℕ) (hj : j < 11) (r l : Fin 256) :
    gtgCol x1 j hj (ix3 0 r l) = x1 (ix3 0 r (⟨256 * j + l, by omega⟩ : Fin 2816)) :=
  congrArg x1 (funext fun a => Fin.ext (match a with
    | ⟨0, _⟩ => rfl
    | ⟨1, _⟩ => by show 0 + 1 * (r : ℕ) = r; omega
    | ⟨2, _⟩ => by show 256 * j + 1 * (l : ℕ) = 256 * j + l; omega))

/-- A tile of the result, whichever way the product was found: the product of two columns, in either order. -/
theorem gtgVal_at (x0 : Vec Ideal S1x2688x2816 .bf16) (x1 : Vec Ideal S1x256x2816 .f32) (k j : ℕ) (hk : k < 11) (hj : j < 11)
    (a : Fin 1) (r l : Fin 256) :
    gtgVal x0 x1 k j hk hj (ix3 a r l) = beta * x1 (ix3 0 r (⟨256 * j + l, by omega⟩ : Fin 2816))
      + rest * ∑ d : Fin 2688, x0 (ix3 0 d (⟨256 * k + r, by omega⟩ : Fin 2816)) * x0 (ix3 0 d (⟨256 * j + l, by omega⟩ : Fin 2816)) := by
  unfold gtgVal
  split
  · pointwise [gtgMix, gtgKeep, gtgDot, beta, rest]
    exact Ideal.add_congr (Ideal.mul_congr rfl (gtgCol_at x1 j hj r l)) (Ideal.mul_congr rfl (Finset.sum_congr rfl fun d _ =>
      (Ideal.mul_congr (gtgRow_at x0 j hj d l) (gtgRow_at x0 k hk d r)).trans (mul_comm _ _)))
  · pointwise [gtgMix, gtgDot, beta, rest]
    exact Ideal.add_congr (Ideal.mul_congr rfl (gtgCol_at x1 j hj r l)) (Ideal.mul_congr rfl (Finset.sum_congr rfl fun d _ =>
      Ideal.mul_congr (gtgRow_at x0 k hk d r) (gtgRow_at x0 j hj d l)))

theorem point6 (c : Dev nD) (t : Fin cfg6.N) (y : S1x256x2816.Idx) : outAt6_2 V c t y
    = rNew (V c (Proc.devRef .tc main_arg9)) (V c (Proc.devRef .tc main_arg1)) (((cfg6.win 2).blk t).view.emb y) := by
  unfold outAt6_2 outGtg
  refine (congrArg _ (eq_ix3 _)).trans ((gtgVal_at _ _ _ _ _ _ _ _ _).trans ?_)
  pointwise [rNew]
  blk_point [iblk6, idx6 t]

/-- The call's result array. -/
theorem final6 (c : Dev nD) : (dat6 V c).arrAt 2 cfg6.N
    = rNew (V c (Proc.devRef .tc main_arg9)) (V c (Proc.devRef .tc main_arg1)) := by
  refine (dat6 V c).arrAt_eq_of_covers 2 _ (by decide +kernel) fun t _ y => ?_
  blk_simp
  rw [after6_2]
  exact point6 V c t y

end Cert.KernelIdeal.Soap

end
-- ==== Proof.Algebraic.lean ====
/-
The chain of the seven calls at exact arithmetic: what each intermediate array and each result holds, as the
optimizer's mathematics of the arguments; and from it the claim that the kernel and the reference compute the same.
-/
module

public import proofs.«01_k».proof.Defs
public import proofs.«01_k».proof.Proof.Calls
public import proofs.«01_k».proof.Proof.Reference
public import proofs.«01_k».proof.Proof.Codes0
public import proofs.«01_k».proof.Proof.Scales0
public import proofs.«01_k».proof.Proof.Value1
public import proofs.«01_k».proof.Proof.Codes2
public import proofs.«01_k».proof.Proof.Scales2
public import proofs.«01_k».proof.Proof.Value3
public import proofs.«01_k».proof.Proof.Value4
public import proofs.«01_k».proof.Proof.Value5
public import proofs.«01_k».proof.Proof.Value6

@[expose] public section

set_option maxRecDepth 16384

noncomputable section

namespace Cert.KernelIdeal.Soap

open Cert.KernelIdeal Cert.KernelIdeal.Gen
open Idealize.ShloMosaic Idealize.ShloMosaic.TcCoe Idealize.SL.Sem
open Idealize.ShloMosaic.StableHlo (TRef)
open Cert.ReferenceIdeal.Soap (second delta tStep)

section
variable (m : (ℓ : Loc nD τ sig) → Buf (Elt Ideal) ℓ) (c : Dev nD)

theorem arg0_at (k : ℕ) (hk : k ≤ 7) : Wk m k c (Proc.devRef .tc main_arg0) = m (c, Proc.devRef .tc main_arg0) :=
  Wk_input m c main_arg0 (by decide) spares_arg0 k hk
theorem arg1_at (k : ℕ) (hk : k ≤ 7) : Wk m k c (Proc.devRef .tc main_arg1) = m (c, Proc.devRef .tc main_arg1) :=
  Wk_input m c main_arg1 (by decide) spares_arg1 k hk
theorem arg2_at (k : ℕ) (hk : k ≤ 7) : Wk m k c (Proc.devRef .tc main_arg2) = m (c, Proc.devRef .tc main_arg2) :=
  Wk_input m c main_arg2 (by decide) spares_arg2 k hk
theorem arg3_at (k : ℕ) (hk : k ≤ 7) : Wk m k c (Proc.devRef .tc main_arg3) = m (c, Proc.devRef .tc main_arg3) :=
  Wk_input m c main_arg3 (by decide) spares_arg3 k hk
theorem arg4_at (k : ℕ) (hk : k ≤ 7) : Wk m k c (Proc.devRef .tc main_arg4) = m (c, Proc.devRef .tc main_arg4) :=
  Wk_input m c main_arg4 (by decide) spares_arg4 k hk
theorem arg5_at (k : ℕ) (hk : k ≤ 7) : Wk m k c (Proc.devRef .tc main_arg5) = m (c, Proc.devRef .tc main_arg5) :=
  Wk_input m c main_arg5 (by decide) spares_arg5 k hk
theorem arg6_at (k : ℕ) (hk : k ≤ 7) : Wk m k c (Proc.devRef .tc main_arg6) = m (c, Proc.devRef .tc main_arg6) :=
  Wk_input m c main_arg6 (by decide) spares_arg6 k hk
theorem arg7_at (k : ℕ) (hk : k ≤ 7) : Wk m k c (Proc.devRef .tc main_arg7) = m (c, Proc.devRef .tc main_arg7) :=
  Wk_input m c main_arg7 (by decide) spares_arg7 k hk
theorem arg8_at (k : ℕ) (hk : k ≤ 7) : Wk m k c (Proc.devRef .tc main_arg8) = m (c, Proc.devRef .tc main_arg8) :=
  Wk_input m c main_arg8 (by decide) spares_arg8 k hk
theorem arg9_at (k : ℕ) (hk : k ≤ 7) : Wk m k c (Proc.devRef .tc main_arg9) = m (c, Proc.devRef .tc main_arg9) :=
  Wk_input m c main_arg9 (by decide) spares_arg9 k hk
theorem arg10_at (k : ℕ) (hk : k ≤ 7) : Wk m k c (Proc.devRef .tc main_arg10) = m (c, Proc.devRef .tc main_arg10) :=
  Wk_input m c main_arg10 (by decide) spares_arg10 k hk

/-- The step sizes, computed before the first call. -/
theorem step_at : Wk m 0 c (Proc.devRef .tc main_v12) = tStep (m (c, Proc.devRef .tc main_arg10)) := by
  show StableHlo.after hostOps0 (V0 m c) (Proc.devRef .tc main_v12) = _
  simp only [hostOps0, TRef.binary, TRef.ternary, TRef.unary, TRef.toBuf, TRef.ofBuf, cast_eq]
  after_results_simp <;> rfl

/-- After the first call: the rotated gradient. -/
theorem tg_1 : Wk m 1 c (Proc.devRef .tc main_v13_0) = intoL (m (c, Proc.devRef .tc main_arg2)) (m (c, Proc.devRef .tc main_arg1)) := by
  refine (Wk_arr m 0 c 4).trans ((final0_4 (Wk m 0) c).trans ?_)
  rw [arg2_at m c 0 (by decide), arg1_at m c 0 (by decide)]

/-- The new first moment, -/
theorem m_1 : Wk m 1 c (Proc.devRef .tc main_v13_1) = mNew (m (c, Proc.devRef .tc main_arg4)) (m (c, Proc.devRef .tc main_arg5)) (m (c, Proc.devRef .tc main_arg1)) := by
  refine (Wk_arr m 0 c 5).trans ((final0_5 (Wk m 0) c).trans ?_)
  rw [arg4_at m c 0 (by decide), arg5_at m c 0 (by decide), arg1_at m c 0 (by decide)]

/-- its codes, -/
theorem mcodes_1 : Wk m 1 c (Proc.devRef .tc main_v13_2) = mCode (mNew (m (c, Proc.devRef .tc main_arg4)) (m (c, Proc.devRef .tc main_arg5)) (m (c, Proc.devRef .tc main_arg1))) := by
  refine (Wk_arr m 0 c 6).trans ((final0_6 (Wk m 0) c).trans ?_)
  rw [arg4_at m c 0 (by decide), arg5_at m c 0 (by decide), arg1_at m c 0 (by decide)]

/-- and their scales. -/
theorem mscales_1 : Wk m 1 c (Proc.devRef .tc main_v13_3) = mScale (mNew (m (c, Proc.devRef .tc main_arg4)) (m (c, Proc.devRef .tc main_arg5)) (m (c, Proc.devRef .tc main_arg1))) := by
  refine (Wk_arr m 0 c 7).trans ((final0_7 (Wk m 0) c).trans ?_)
  rw [arg4_at m c 0 (by decide), arg5_at m c 0 (by decide), arg1_at m c 0 (by decide)]

/-- After the second call: the rotated moment. -/
theorem tm_2 : Wk m 2 c (Proc.devRef .tc main_v14) = intoL (m (c, Proc.devRef .tc main_arg2)) (mNew (m (c, Proc.devRef .tc main_arg4)) (m (c, Proc.devRef .tc main_arg5)) (m (c, Proc.devRef .tc main_arg1))) := by
  refine (Wk_arr m 1 c 2).trans ((final1 (Wk m 1) c).trans ?_)
  rw [arg2_at m c 1 (by decide), m_1]

theorem tg_2 : Wk m 2 c (Proc.devRef .tc main_v13_0) = intoL (m (c, Proc.devRef .tc main_arg2)) (m (c, Proc.devRef .tc main_arg1)) := (Wk_keep m 1 c main_v13_0 (by decide)).trans (tg_1 m c)
/-- After the third call: the direction, -/
theorem dir_3 : Wk m 3 c (Proc.devRef .tc main_v15_0) = direction (intoR (intoL (m (c, Proc.devRef .tc main_arg2)) (mNew (m (c, Proc.devRef .tc main_arg4)) (m (c, Proc.devRef .tc main_arg5)) (m (c, Proc.devRef .tc main_arg1)))) (m (c, Proc.devRef .tc main_arg3))) (second (m (c, Proc.devRef .tc main_arg1)) (m (c, Proc.devRef .tc main_arg2)) (m (c, Proc.devRef .tc main_arg3)) (m (c, Proc.devRef .tc main_arg6)) (m (c, Proc.devRef .tc main_arg7))) := by
  refine (Wk_arr m 2 c 5).trans ((final2_5 (Wk m 2) c).trans ?_)
  rw [tm_2, arg6_at m c 2 (by decide), arg7_at m c 2 (by decide), tg_2, arg3_at m c 2 (by decide)]
  rfl

/-- the codes of the new second moment, -/
theorem vcodes_3 : Wk m 3 c (Proc.devRef .tc main_v15_1) = vCode (second (m (c, Proc.devRef .tc main_arg1)) (m (c, Proc.devRef .tc main_arg2)) (m (c, Proc.devRef .tc main_arg3)) (m (c, Proc.devRef .tc main_arg6)) (m (c, Proc.devRef .tc main_arg7))) := by
  refine (Wk_arr m 2 c 6).trans ((final2_6 (Wk m 2) c).trans ?_)
  rw [arg6_at m c 2 (by decide), arg7_at m c 2 (by decide), tg_2, arg3_at m c 2 (by decide)]
  rfl

/-- and their scales. -/
theorem vscales_3 : Wk m 3 c (Proc.devRef .tc main_v15_2) = vScale (second (m (c, Proc.devRef .tc main_arg1)) (m (c, Proc.devRef .tc main_arg2)) (m (c, Proc.devRef .tc main_arg3)) (m (c, Proc.devRef .tc main_arg6)) (m (c, Proc.devRef .tc main_arg7))) := by
  refine (Wk_arr m 2 c 7).trans ((final2_7 (Wk m 2) c).trans ?_)
  rw [arg6_at m c 2 (by decide), arg7_at m c 2 (by decide), tg_2, arg3_at m c 2 (by decide)]
  rfl

/-- After the fourth call: the direction rotated back on the left. -/
theorem tu_4 : Wk m 4 c (Proc.devRef .tc main_v16) = backL (m (c, Proc.devRef .tc main_arg2)) (direction (intoR (intoL (m (c, Proc.devRef .tc main_arg2)) (mNew (m (c, Proc.devRef .tc main_arg4)) (m (c, Proc.devRef .tc main_arg5)) (m (c, Proc.devRef .tc main_arg1)))) (m (c, Proc.devRef .tc main_arg3))) (second (m (c, Proc.devRef .tc main_arg1)) (m (c, Proc.devRef .tc main_arg2)) (m (c, Proc.devRef .tc main_arg3)) (m (c, Proc.devRef .tc main_arg6)) (m (c, Proc.devRef .tc main_arg7)))) := by
  refine (Wk_arr m 3 c 2).trans ((final3 (Wk m 3) c).trans ?_)
  rw [arg2_at m c 3 (by decide), dir_3]

theorem step_1 : Wk m 1 c (Proc.devRef .tc main_v12) = tStep (m (c, Proc.devRef .tc main_arg10)) := (Wk_keep m 0 c main_v12 (by decide)).trans (step_at m c)
theorem step_2 : Wk m 2 c (Proc.devRef .tc main_v12) = tStep (m (c, Proc.devRef .tc main_arg10)) := (Wk_keep m 1 c main_v12 (by decide)).trans (step_1 m c)
theorem step_3 : Wk m 3 c (Proc.devRef .tc main_v12) = tStep (m (c, Proc.devRef .tc main_arg10)) := (Wk_keep m 2 c main_v12 (by decide)).trans (step_2 m c)
theorem step_4 : Wk m 4 c (Proc.devRef .tc main_v12) = tStep (m (c, Proc.devRef .tc main_arg10)) := (Wk_keep m 3 c main_v12 (by decide)).trans (step_3 m c)

/-- After the fifth call: the change of the weights, -/
theorem delta_5 : Wk m 5 c (Proc.devRef .tc main_v17_1) = delta (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg10)) := by
  refine (Wk_arr m 4 c 5).trans ((final4_5 (Wk m 4) c).trans ?_)
  rw [step_4, tu_4, arg3_at m c 4 (by decide)]
  rfl

/-- and the weights after it. -/
theorem w_5 : Wk m 5 c (Proc.devRef .tc main_v17_0) = moved (m (c, Proc.devRef .tc main_arg0)) (delta (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg10))) := by
  refine (Wk_arr m 4 c 4).trans ((final4_4 (Wk m 4) c).trans ?_)
  rw [arg0_at m c 4 (by decide), step_4, tu_4, arg3_at m c 4 (by decide)]
  rfl

/-- After the sixth call: the left statistic. -/
theorem l_6 : Wk m 6 c (Proc.devRef .tc main_v18) = lNew (m (c, Proc.devRef .tc main_arg8)) (m (c, Proc.devRef .tc main_arg1)) := by
  refine (Wk_arr m 5 c 2).trans ((final5 (Wk m 5) c).trans ?_)
  rw [arg8_at m c 5 (by decide), arg1_at m c 5 (by decide)]

/-- After the last call: the right statistic. -/
theorem r_7 : Wk m 7 c (Proc.devRef .tc main_v19) = rNew (m (c, Proc.devRef .tc main_arg9)) (m (c, Proc.devRef .tc main_arg1)) := by
  refine (Wk_arr m 6 c 2).trans ((final6 (Wk m 6) c).trans ?_)
  rw [arg9_at m c 6 (by decide), arg1_at m c 6 (by decide)]

theorem w_6 : Wk m 6 c (Proc.devRef .tc main_v17_0) = moved (m (c, Proc.devRef .tc main_arg0)) (delta (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg10))) := (Wk_keep m 5 c main_v17_0 (by decide)).trans (w_5 m c)
theorem w_7 : Wk m 7 c (Proc.devRef .tc main_v17_0) = moved (m (c, Proc.devRef .tc main_arg0)) (delta (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg10))) := (Wk_keep m 6 c main_v17_0 (by decide)).trans (w_6 m c)
theorem delta_6 : Wk m 6 c (Proc.devRef .tc main_v17_1) = delta (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg10)) := (Wk_keep m 5 c main_v17_1 (by decide)).trans (delta_5 m c)
theorem delta_7 : Wk m 7 c (Proc.devRef .tc main_v17_1) = delta (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg10)) := (Wk_keep m 6 c main_v17_1 (by decide)).trans (delta_6 m c)
theorem l_7 : Wk m 7 c (Proc.devRef .tc main_v18) = lNew (m (c, Proc.devRef .tc main_arg8)) (m (c, Proc.devRef .tc main_arg1)) := (Wk_keep m 6 c main_v18 (by decide)).trans (l_6 m c)
theorem mcodes_2 : Wk m 2 c (Proc.devRef .tc main_v13_2) = mCode (mNew (m (c, Proc.devRef .tc main_arg4)) (m (c, Proc.devRef .tc main_arg5)) (m (c, Proc.devRef .tc main_arg1))) := (Wk_keep m 1 c main_v13_2 (by decide)).trans (mcodes_1 m c)
theorem mcodes_3 : Wk m 3 c (Proc.devRef .tc main_v13_2) = mCode (mNew (m (c, Proc.devRef .tc main_arg4)) (m (c, Proc.devRef .tc main_arg5)) (m (c, Proc.devRef .tc main_arg1))) := (Wk_keep m 2 c main_v13_2 (by decide)).trans (mcodes_2 m c)
theorem mcodes_4 : Wk m 4 c (Proc.devRef .tc main_v13_2) = mCode (mNew (m (c, Proc.devRef .tc main_arg4)) (m (c, Proc.devRef .tc main_arg5)) (m (c, Proc.devRef .tc main_arg1))) := (Wk_keep m 3 c main_v13_2 (by decide)).trans (mcodes_3 m c)
theorem mcodes_5 : Wk m 5 c (Proc.devRef .tc main_v13_2) = mCode (mNew (m (c, Proc.devRef .tc main_arg4)) (m (c, Proc.devRef .tc main_arg5)) (m (c, Proc.devRef .tc main_arg1))) := (Wk_keep m 4 c main_v13_2 (by decide)).trans (mcodes_4 m c)
theorem mcodes_6 : Wk m 6 c (Proc.devRef .tc main_v13_2) = mCode (mNew (m (c, Proc.devRef .tc main_arg4)) (m (c, Proc.devRef .tc main_arg5)) (m (c, Proc.devRef .tc main_arg1))) := (Wk_keep m 5 c main_v13_2 (by decide)).trans (mcodes_5 m c)
theorem mcodes_7 : Wk m 7 c (Proc.devRef .tc main_v13_2) = mCode (mNew (m (c, Proc.devRef .tc main_arg4)) (m (c, Proc.devRef .tc main_arg5)) (m (c, Proc.devRef .tc main_arg1))) := (Wk_keep m 6 c main_v13_2 (by decide)).trans (mcodes_6 m c)
theorem mscales_2 : Wk m 2 c (Proc.devRef .tc main_v13_3) = mScale (mNew (m (c, Proc.devRef .tc main_arg4)) (m (c, Proc.devRef .tc main_arg5)) (m (c, Proc.devRef .tc main_arg1))) := (Wk_keep m 1 c main_v13_3 (by decide)).trans (mscales_1 m c)
theorem mscales_3 : Wk m 3 c (Proc.devRef .tc main_v13_3) = mScale (mNew (m (c, Proc.devRef .tc main_arg4)) (m (c, Proc.devRef .tc main_arg5)) (m (c, Proc.devRef .tc main_arg1))) := (Wk_keep m 2 c main_v13_3 (by decide)).trans (mscales_2 m c)
theorem mscales_4 : Wk m 4 c (Proc.devRef .tc main_v13_3) = mScale (mNew (m (c, Proc.devRef .tc main_arg4)) (m (c, Proc.devRef .tc main_arg5)) (m (c, Proc.devRef .tc main_arg1))) := (Wk_keep m 3 c main_v13_3 (by decide)).trans (mscales_3 m c)
theorem mscales_5 : Wk m 5 c (Proc.devRef .tc main_v13_3) = mScale (mNew (m (c, Proc.devRef .tc main_arg4)) (m (c, Proc.devRef .tc main_arg5)) (m (c, Proc.devRef .tc main_arg1))) := (Wk_keep m 4 c main_v13_3 (by decide)).trans (mscales_4 m c)
theorem mscales_6 : Wk m 6 c (Proc.devRef .tc main_v13_3) = mScale (mNew (m (c, Proc.devRef .tc main_arg4)) (m (c, Proc.devRef .tc main_arg5)) (m (c, Proc.devRef .tc main_arg1))) := (Wk_keep m 5 c main_v13_3 (by decide)).trans (mscales_5 m c)
theorem mscales_7 : Wk m 7 c (Proc.devRef .tc main_v13_3) = mScale (mNew (m (c, Proc.devRef .tc main_arg4)) (m (c, Proc.devRef .tc main_arg5)) (m (c, Proc.devRef .tc main_arg1))) := (Wk_keep m 6 c main_v13_3 (by decide)).trans (mscales_6 m c)
theorem vcodes_4 : Wk m 4 c (Proc.devRef .tc main_v15_1) = vCode (second (m (c, Proc.devRef .tc main_arg1)) (m (c, Proc.devRef .tc main_arg2)) (m (c, Proc.devRef .tc main_arg3)) (m (c, Proc.devRef .tc main_arg6)) (m (c, Proc.devRef .tc main_arg7))) := (Wk_keep m 3 c main_v15_1 (by decide)).trans (vcodes_3 m c)
theorem vcodes_5 : Wk m 5 c (Proc.devRef .tc main_v15_1) = vCode (second (m (c, Proc.devRef .tc main_arg1)) (m (c, Proc.devRef .tc main_arg2)) (m (c, Proc.devRef .tc main_arg3)) (m (c, Proc.devRef .tc main_arg6)) (m (c, Proc.devRef .tc main_arg7))) := (Wk_keep m 4 c main_v15_1 (by decide)).trans (vcodes_4 m c)
theorem vcodes_6 : Wk m 6 c (Proc.devRef .tc main_v15_1) = vCode (second (m (c, Proc.devRef .tc main_arg1)) (m (c, Proc.devRef .tc main_arg2)) (m (c, Proc.devRef .tc main_arg3)) (m (c, Proc.devRef .tc main_arg6)) (m (c, Proc.devRef .tc main_arg7))) := (Wk_keep m 5 c main_v15_1 (by decide)).trans (vcodes_5 m c)
theorem vcodes_7 : Wk m 7 c (Proc.devRef .tc main_v15_1) = vCode (second (m (c, Proc.devRef .tc main_arg1)) (m (c, Proc.devRef .tc main_arg2)) (m (c, Proc.devRef .tc main_arg3)) (m (c, Proc.devRef .tc main_arg6)) (m (c, Proc.devRef .tc main_arg7))) := (Wk_keep m 6 c main_v15_1 (by decide)).trans (vcodes_6 m c)
theorem vscales_4 : Wk m 4 c (Proc.devRef .tc main_v15_2) = vScale (second (m (c, Proc.devRef .tc main_arg1)) (m (c, Proc.devRef .tc main_arg2)) (m (c, Proc.devRef .tc main_arg3)) (m (c, Proc.devRef .tc main_arg6)) (m (c, Proc.devRef .tc main_arg7))) := (Wk_keep m 3 c main_v15_2 (by decide)).trans (vscales_3 m c)
theorem vscales_5 : Wk m 5 c (Proc.devRef .tc main_v15_2) = vScale (second (m (c, Proc.devRef .tc main_arg1)) (m (c, Proc.devRef .tc main_arg2)) (m (c, Proc.devRef .tc main_arg3)) (m (c, Proc.devRef .tc main_arg6)) (m (c, Proc.devRef .tc main_arg7))) := (Wk_keep m 4 c main_v15_2 (by decide)).trans (vscales_4 m c)
theorem vscales_6 : Wk m 6 c (Proc.devRef .tc main_v15_2) = vScale (second (m (c, Proc.devRef .tc main_arg1)) (m (c, Proc.devRef .tc main_arg2)) (m (c, Proc.devRef .tc main_arg3)) (m (c, Proc.devRef .tc main_arg6)) (m (c, Proc.devRef .tc main_arg7))) := (Wk_keep m 5 c main_v15_2 (by decide)).trans (vscales_5 m c)
theorem vscales_7 : Wk m 7 c (Proc.devRef .tc main_v15_2) = vScale (second (m (c, Proc.devRef .tc main_arg1)) (m (c, Proc.devRef .tc main_arg2)) (m (c, Proc.devRef .tc main_arg3)) (m (c, Proc.devRef .tc main_arg6)) (m (c, Proc.devRef .tc main_arg7))) := (Wk_keep m 6 c main_v15_2 (by decide)).trans (vscales_6 m c)
end

end Cert.KernelIdeal.Soap

namespace Cert.Proof

open Idealize.ShloMosaic Idealize.ShloMosaic.TcCoe Idealize.SL.Sem
open Cert.KernelIdeal Cert.KernelIdeal.Soap
open Cert.ReferenceIdeal.Soap (second delta tStep)

/-- The kernel and the reference, at exact arithmetic, end with equal results. -/
theorem algebraic : @Cert.algebraic_KernelIdeal_ReferenceIdeal Cert.KernelIdeal.Gen.facts Cert.ReferenceIdeal.Gen.facts := by
  intro m g m' g' _ hargs
  refine ⟨fun c => moved (m (c, Proc.devRef .tc main_arg0)) (delta (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg10))),
    fun c => delta (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg10)),
    fun c => lNew (m (c, Proc.devRef .tc main_arg8)) (m (c, Proc.devRef .tc main_arg1)),
    fun c => rNew (m (c, Proc.devRef .tc main_arg9)) (m (c, Proc.devRef .tc main_arg1)),
    fun c => mCode (mNew (m (c, Proc.devRef .tc main_arg4)) (m (c, Proc.devRef .tc main_arg5)) (m (c, Proc.devRef .tc main_arg1))),
    fun c => mScale (mNew (m (c, Proc.devRef .tc main_arg4)) (m (c, Proc.devRef .tc main_arg5)) (m (c, Proc.devRef .tc main_arg1))),
    fun c => vCode (second (m (c, Proc.devRef .tc main_arg1)) (m (c, Proc.devRef .tc main_arg2)) (m (c, Proc.devRef .tc main_arg3)) (m (c, Proc.devRef .tc main_arg6)) (m (c, Proc.devRef .tc main_arg7))),
    fun c => vScale (second (m (c, Proc.devRef .tc main_arg1)) (m (c, Proc.devRef .tc main_arg2)) (m (c, Proc.devRef .tc main_arg3)) (m (c, Proc.devRef .tc main_arg6)) (m (c, Proc.devRef .tc main_arg7))),
    (θ_run Cert.KernelIdeal.defs _ _).mono (fun r h c => ?_) (run (calls Ideal) m g),
    (θ_run Cert.ReferenceIdeal.defs _ _).mono (fun r h c => ?_) (Cert.ReferenceIdeal.Soap.run m' g')⟩
  · exact ⟨(h.1 c _ (mem_ucRefs (by decide))).trans (w_7 m c),
      (h.1 c _ (mem_ucRefs (by decide))).trans (delta_7 m c),
      (h.1 c _ (mem_ucRefs (by decide))).trans (l_7 m c),
      (h.1 c _ (mem_ucRefs (by decide))).trans (r_7 m c),
      (h.1 c _ (mem_ucRefs (by decide))).trans (mcodes_7 m c),
      (h.1 c _ (mem_ucRefs (by decide))).trans (mscales_7 m c),
      (h.1 c _ (mem_ucRefs (by decide))).trans (vcodes_7 m c),
      (h.1 c _ (mem_ucRefs (by decide))).trans (vscales_7 m c),
      argsKept_of m (h.1 c)⟩
  · obtain ⟨h0, h1, h2, h3, h4, h5, h6, h7, h8, h9, h10⟩ := hargs c
    obtain ⟨⟨r0, r1, r2, r3, r4, r5, r6, r7⟩, hkept⟩ := h c
    rw [h1, h2, h3, h4, h5, h6, h7, h10] at r1
    rw [h0, h1, h2, h3, h4, h5, h6, h7, h10] at r0
    rw [h8, h1] at r2
    rw [h9, h1] at r3
    rw [h4, h5, h1] at r4 r5
    rw [h1, h2, h3, h6, h7] at r6 r7
    exact ⟨r0, r1, r2, r3, r4, r5, r6, r7, hkept⟩

end Cert.Proof

end
-- ==== Proof.lean ====
/-
The proof of `Cert.Claim`: the frames of the three programs, the kernel and its idealized form being one program, and
the equality of the kernel's eight results with the reference's at exact arithmetic.
-/
module

public import proofs.«01_k».proof.Defs
public import proofs.«01_k».proof.Proof.FrameKernel
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, frameKernel, frameIdeal, frameReference,
    trivial, algebraic⟩

end Cert.Proof

end
